-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_bf16_range [hPre_in_bf16_range : Cert.Pre_in_bf16_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_bf16_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_bf16_range [hPre_in_bf16_range : Cert.Pre_in_bf16_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_bf16_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_bf16_range [hKernelIdeal : Cert.KernelIdeal.Facts] [hPre_in_bf16_range : Cert.Pre_in_bf16_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_bf16_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_bf16_range [hReferenceIdeal : Cert.ReferenceIdeal.Facts] [hPre_in_bf16_range : Cert.Pre_in_bf16_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_bf16_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.Statement Cert.KernelIdeal.S64x128 Cert.KernelIdeal.S32x128

def algebraic_KernelIdeal_ReferenceIdeal_pre_in_bf16_range [hKernelIdeal : Cert.KernelIdeal.Facts] [hReferenceIdeal : Cert.ReferenceIdeal.Facts] [hPre_in_bf16_range : Cert.Pre_in_bf16_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_bf16_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_bf16_range : Cert.Pre_in_bf16_range.Facts),
    quiescent_Kernel (hKernel := hKernel)
    ∧ quiescent_KernelIdeal (hKernelIdeal := hKernelIdeal)
    ∧ quiescent_KernelIdeal_pre_in_bf16_range (hKernelIdeal := hKernelIdeal) (hPre_in_bf16_range := hPre_in_bf16_range)
    ∧ quiescent_ReferenceIdeal (hReferenceIdeal := hReferenceIdeal)
    ∧ quiescent_ReferenceIdeal_pre_in_bf16_range (hReferenceIdeal := hReferenceIdeal) (hPre_in_bf16_range := hPre_in_bf16_range)
    ∧ preserves_Kernel_KernelIdeal
    ∧ algebraic_KernelIdeal_ReferenceIdeal_pre_in_bf16_range (hKernelIdeal := hKernelIdeal) (hReferenceIdeal := hReferenceIdeal) (hPre_in_bf16_range := hPre_in_bf16_range)
-- ==== Pre_in_bf16_range.lean ====
abbrev S4x3072x3072 : Shape := ⟨3, ![4, 3072, 3072]⟩
abbrev S3072x8192 : Shape := ⟨2, ![3072, 8192]⟩
abbrev S96x8192 : Shape := ⟨2, ![96, 8192]⟩
abbrev S_ : Shape := ⟨0, ![]⟩

class Facts : Prop where
  bcast_S_S4x3072x3072 : S_.BroadcastsInDim S4x3072x3072 (![] : Fin 0 → Fin S4x3072x3072.rank)

variable [Facts]

def fn {F : FTy → Type} [FloatOps F] (main_arg0 : FVec F S4x3072x3072 .bf16) (main_arg1 : FVec F S3072x8192 .fp8e4m3) (main_arg2 : IVec S96x8192 8) : IVec S4x3072x3072 1 :=
  let main_v0 : FVec F S4x3072x3072 .bf16 := Host.absf main_arg0
  let main_cst : FVec F S_ .bf16 := constant S_ .bf16 0x7F7F#16
  let main_v1 : FVec F S4x3072x3072 .bf16 := broadcastInDim S4x3072x3072 ![] bcast_S_S4x3072x3072 main_cst
  let main_v2 : IVec S4x3072x3072 1 := cmpf .ole main_v0 main_v1
  let main_v3 : FVec F S4x3072x3072 .bf16 := Host.absf main_arg0
  let main_cst_0 : FVec F S_ .bf16 := constant S_ .bf16 0x7F80#16
  let main_v4 : FVec F S4x3072x3072 .bf16 := broadcastInDim S4x3072x3072 ![] bcast_S_S4x3072x3072 main_cst_0
  let main_v5 : IVec S4x3072x3072 1 := cmpf .oeq main_v3 main_v4
  let main_v6 : IVec S4x3072x3072 1 := ori main_v2 main_v5
  main_v6
-- ==== Kernel.lean ====
abbrev S4x3072x3072 : Shape := ⟨3, ![4, 3072, 3072]⟩
abbrev S3072x8192 : Shape := ⟨2, ![3072, 8192]⟩
abbrev S96x8192 : Shape := ⟨2, ![96, 8192]⟩
abbrev S12288x3072 : Shape := ⟨2, ![12288, 3072]⟩
abbrev S12288x8192 : Shape := ⟨2, ![12288, 8192]⟩
abbrev S12288x96 : Shape := ⟨2, ![12288, 96]⟩
abbrev S1024x3072 : Shape := ⟨2, ![1024, 3072]⟩
abbrev S3072x1024 : Shape := ⟨2, ![3072, 1024]⟩
abbrev S96x1024 : Shape := ⟨2, ![96, 1024]⟩
abbrev S1024x1024 : Shape := ⟨2, ![1024, 1024]⟩
abbrev S1024x96 : Shape := ⟨2, ![1024, 96]⟩
abbrev S64x3072 : Shape := ⟨2, ![64, 3072]⟩
abbrev S64x128 : Shape := ⟨2, ![64, 128]⟩
abbrev S32x128 : Shape := ⟨2, ![32, 128]⟩
abbrev S64x128x1 : Shape := ⟨3, ![64, 128, 1]⟩
abbrev S64x96 : Shape := ⟨2, ![64, 96]⟩
abbrev S96x32x1024 : Shape := ⟨3, ![96, 32, 1024]⟩
abbrev S96x1x1024 : Shape := ⟨3, ![96, 1, 1024]⟩

abbrev nBuf : Space → Nat
  | .hbm => 7
  | .vmem => 13
  | .smem => 0
  | _ => 0

abbrev bufTy : (tb : Table) → Fin (tcTables nBuf tb) → BufTy
  | .hbm, ⟨0, _⟩ => ⟨S4x3072x3072, .bf16⟩
  | .hbm, ⟨1, _⟩ => ⟨S3072x8192, .fp8e4m3⟩
  | .hbm, ⟨2, _⟩ => ⟨S96x8192, .i8⟩
  | .hbm, ⟨3, _⟩ => ⟨S12288x3072, .bf16⟩
  | .hbm, ⟨4, _⟩ => ⟨S12288x8192, .bf16⟩
  | .hbm, ⟨5, _⟩ => ⟨S12288x3072, .fp8e4m3⟩
  | .hbm, ⟨6, _⟩ => ⟨S12288x96, .i8⟩
  | .local _ .vmem, ⟨0, _⟩ => ⟨S1024x3072, .bf16⟩
  | .local _ .vmem, ⟨1, _⟩ => ⟨S1024x3072, .bf16⟩
  | .local _ .vmem, ⟨2, _⟩ => ⟨S3072x1024, .fp8e4m3⟩
  | .local _ .vmem, ⟨3, _⟩ => ⟨S3072x1024, .fp8e4m3⟩
  | .local _ .vmem, ⟨4, _⟩ => ⟨S96x1024, .i8⟩
  | .local _ .vmem, ⟨5, _⟩ => ⟨S96x1024, .i8⟩
  | .local _ .vmem, ⟨6, _⟩ => ⟨S1024x1024, .bf16⟩
  | .local _ .vmem, ⟨7, _⟩ => ⟨S1024x1024, .bf16⟩
  | .local _ .vmem, ⟨8, _⟩ => ⟨S1024x3072, .fp8e4m3⟩
  | .local _ .vmem, ⟨9, _⟩ => ⟨S1024x3072, .fp8e4m3⟩
  | .local _ .vmem, ⟨10, _⟩ => ⟨S1024x96, .i8⟩
  | .local _ .vmem, ⟨11, _⟩ => ⟨S1024x96, .i8⟩
  | .local _ .vmem, ⟨12, _⟩ => ⟨S1024x3072, .bf16⟩
  | _, _ => ⟨S4x3072x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![12, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c16_i32 : BitVec 32 := 16#32
  let v20 : BitVec 32 := Scalar.addi c0_i32_8 c16_i32
  let c1_i32 : BitVec 32 := 1#32
  ⟨c0_i32_8, v20, c1_i32⟩
def k0_mult1 (k0_t1 : Fin k0_t1_loop.trips) : BitVec 32 :=
  let c0_i32_8 : BitVec 32 := 0#32
  let c1_i32 : BitVec 32 := 1#32
  let arg9 : BitVec 32 := Scf.iv c0_i32_8 c1_i32 k0_t1
  let c64_i32 : BitVec 32 := 64#32
  let v21 : BitVec 32 := Scalar.muli arg9 c64_i32
  v21
def k0_off1 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c64_i32 : BitVec 32 := 64#32
  let v21 : BitVec 32 := Scalar.muli arg9 c64_i32
  let v22 : BitVec 32 := v21
  let v23 : Index := Scalar.indexCast v22
  let c0_10 : Index := 0#32
  ![v23.toNat, 0]
def k0_off2 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c64_i32 : BitVec 32 := 64#32
  let v21 : BitVec 32 := Scalar.muli arg9 c64_i32
  let v22 : BitVec 32 := v21
  let v4279 : Index := Scalar.indexCast v22
  let c0_1211 : Index := 0#32
  ![v4279.toNat, 0]
def k0_off3 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c64_i32 : BitVec 32 := 64#32
  let v21 : BitVec 32 := Scalar.muli arg9 c64_i32
  let v22 : BitVec 32 := v21
  let v4285 : Index := Scalar.indexCast v22
  let c128 : Index := 128#32
  ![v4285.toNat, 128]
def k0_off4 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c64_i32 : BitVec 32 := 64#32
  let v21 : BitVec 32 := Scalar.muli arg9 c64_i32
  let v22 : BitVec 32 := v21
  let v4291 : Index := Scalar.indexCast v22
  let c256 : Index := 256#32
  ![v4291.toNat, 256]
def k0_off5 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c64_i32 : BitVec 32 := 64#32
  let v21 : BitVec 32 := Scalar.muli arg9 c64_i32
  let v22 : BitVec 32 := v21
  let v4297 : Index := Scalar.indexCast v22
  let c384 : Index := 384#32
  ![v4297.toNat, 384]
def k0_off6 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c64_i32 : BitVec 32 := 64#32
  let v21 : BitVec 32 := Scalar.muli arg9 c64_i32
  let v22 : BitVec 32 := v21
  let v4303 : Index := Scalar.indexCast v22
  let c512 : Index := 512#32
  ![v4303.toNat, 512]
def k0_off7 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c64_i32 : BitVec 32 := 64#32
  let v21 : BitVec 32 := Scalar.muli arg9 c64_i32
  let v22 : BitVec 32 := v21
  let v4309 : Index := Scalar.indexCast v22
  let c640 : Index := 640#32
  ![v4309.toNat, 640]
def k0_off8 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c64_i32 : BitVec 32 := 64#32
  let v21 : BitVec 32 := Scalar.muli arg9 c64_i32
  let v22 : BitVec 32 := v21
  let v4315 : Index := Scalar.indexCast v22
  let c768 : Index := 768#32
  ![v4315.toNat, 768]
def k0_off9 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c64_i32 : BitVec 32 := 64#32
  let v21 : BitVec 32 := Scalar.muli arg9 c64_i32
  let v22 : BitVec 32 := v21
  let v4321 : Index := Scalar.indexCast v22
  let c896 : Index := 896#32
  ![v4321.toNat, 896]
def k0_off10 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c64_i32 : BitVec 32 := 64#32
  let v21 : BitVec 32 := Scalar.muli arg9 c64_i32
  let v22 : BitVec 32 := v21
  let v4327 : Index := Scalar.indexCast v22
  let c1024 : Index := 1024#32
  ![v4327.toNat, 1024]
def k0_off11 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c64_i32 : BitVec 32 := 64#32
  let v21 : BitVec 32 := Scalar.muli arg9 c64_i32
  let v22 : BitVec 32 := v21
  let v4333 : Index := Scalar.indexCast v22
  let c1152 : Index := 1152#32
  ![v4333.toNat, 1152]
def k0_off12 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c64_i32 : BitVec 32 := 64#32
  let v21 : BitVec 32 := Scalar.muli arg9 c64_i32
  let v22 : BitVec 32 := v21
  let v4339 : Index := Scalar.indexCast v22
  let c1280 : Index := 1280#32
  ![v4339.toNat, 1280]
def k0_off13 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c64_i32 : BitVec 32 := 64#32
  let v21 : BitVec 32 := Scalar.muli arg9 c64_i32
  let v22 : BitVec 32 := v21
  let v4345 : Index := Scalar.indexCast v22
  let c1408 : Index := 1408#32
  ![v4345.toNat, 1408]
def k0_off14 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c64_i32 : BitVec 32 := 64#32
  let v21 : BitVec 32 := Scalar.muli arg9 c64_i32
  let v22 : BitVec 32 := v21
  let v4351 : Index := Scalar.indexCast v22
  let c1536 : Index := 1536#32
  ![v4351.toNat, 1536]
def k0_off15 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c64_i32 : BitVec 32 := 64#32
  let v21 : BitVec 32 := Scalar.muli arg9 c64_i32
  let v22 : BitVec 32 := v21
  let v4357 : Index := Scalar.indexCast v22
  let c1664 : Index := 1664#32
  ![v4357.toNat, 1664]
def k0_off16 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c64_i32 : BitVec 32 := 64#32
  let v21 : BitVec 32 := Scalar.muli arg9 c64_i32
  let v22 : BitVec 32 := v21
  let v4363 : Index := Scalar.indexCast v22
  let c1792 : Index := 1792#32
  ![v4363.toNat, 1792]
def k0_off17 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c64_i32 : BitVec 32 := 64#32
  let v21 : BitVec 32 := Scalar.muli arg9 c64_i32
  let v22 : BitVec 32 := v21
  let v4369 : Index := Scalar.indexCast v22
  let c1920 : Index := 1920#32
  ![v4369.toNat, 1920]
def k0_off18 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c64_i32 : BitVec 32 := 64#32
  let v21 : BitVec 32 := Scalar.muli arg9 c64_i32
  let v22 : BitVec 32 := v21
  let v4375 : Index := Scalar.indexCast v22
  let c2048 : Index := 2048#32
  ![v4375.toNat, 2048]
def k0_off19 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c64_i32 : BitVec 32 := 64#32
  let v21 : BitVec 32 := Scalar.muli arg9 c64_i32
  let v22 : BitVec 32 := v21
  let v4381 : Index := Scalar.indexCast v22
  let c2176 : Index := 2176#32
  ![v4381.toNat, 2176]
def k0_off20 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c64_i32 : BitVec 32 := 64#32
  let v21 : BitVec 32 := Scalar.muli arg9 c64_i32
  let v22 : BitVec 32 := v21
  let v4387 : Index := Scalar.indexCast v22
  let c2304 : Index := 2304#32
  ![v4387.toNat, 2304]
def k0_off21 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c64_i32 : BitVec 32 := 64#32
  let v21 : BitVec 32 := Scalar.muli arg9 c64_i32
  let v22 : BitVec 32 := v21
  let v4393 : Index := Scalar.indexCast v22
  let c2432 : Index := 2432#32
  ![v4393.toNat, 2432]
def k0_off22 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c64_i32 : BitVec 32 := 64#32
  let v21 : BitVec 32 := Scalar.muli arg9 c64_i32
  let v22 : BitVec 32 := v21
  let v4399 : Index := Scalar.indexCast v22
  let c2560 : Index := 2560#32
  ![v4399.toNat, 2560]
def k0_off23 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c64_i32 : BitVec 32 := 64#32
  let v21 : BitVec 32 := Scalar.muli arg9 c64_i32
  let v22 : BitVec 32 := v21
  let v4405 : Index := Scalar.indexCast v22
  let c2688 : Index := 2688#32
  ![v4405.toNat, 2688]
def k0_off24 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c64_i32 : BitVec 32 := 64#32
  let v21 : BitVec 32 := Scalar.muli arg9 c64_i32
  let v22 : BitVec 32 := v21
  let v4411 : Index := Scalar.indexCast v22
  let c2816 : Index := 2816#32
  ![v4411.toNat, 2816]
def k0_off25 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c64_i32 : BitVec 32 := 64#32
  let v21 : BitVec 32 := Scalar.muli arg9 c64_i32
  let v22 : BitVec 32 := v21
  let v4417 : Index := Scalar.indexCast v22
  let c2944 : Index := 2944#32
  ![v4417.toNat, 2944]
def k0_off26 (k0_t1 : Fin k0_t1_loop.trips) : Fin 2 → Nat :=
  let c0_i32_8 : BitVec 32 := 0#32
  let c1_i32 : BitVec 32 := 1#32
  let arg9 : BitVec 32 := Scf.iv c0_i32_8 c1_i32 k0_t1
  let c64_i32 : BitVec 32 := 64#32
  let v21 : BitVec 32 := Scalar.muli arg9 c64_i32
  let v22 : BitVec 32 := v21
  let v4425 : Index := Scalar.indexCast v22
  let c0_1236 : Index := 0#32
  ![v4425.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3072x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S96x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x3072 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x96 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
variable {F : FTy → Type} [FloatOps F]
-- ==== ReferenceIdeal.lean ====
abbrev S4x3072x3072 : Shape := ⟨3, ![4, 3072, 3072]⟩
abbrev S3072x8192 : Shape := ⟨2, ![3072, 8192]⟩
abbrev S96x8192 : Shape := ⟨2, ![96, 8192]⟩
abbrev S12288x8192 : Shape := ⟨2, ![12288, 8192]⟩
abbrev S12288x3072 : Shape := ⟨2, ![12288, 3072]⟩
abbrev S12288x96 : Shape := ⟨2, ![12288, 96]⟩
abbrev S12288x96x32 : Shape := ⟨3, ![12288, 96, 32]⟩
abbrev S1x1x254 : Shape := ⟨3, ![1, 1, 254]⟩
abbrev S12288x96x1 : Shape := ⟨3, ![12288, 96, 1]⟩
abbrev S12288x96x254 : Shape := ⟨3, ![12288, 96, 254]⟩
abbrev S96x32x8192 : Shape := ⟨3, ![96, 32, 8192]⟩
abbrev S96x1x8192 : Shape := ⟨3, ![96, 1, 8192]⟩

abbrev nBuf : Space → Nat
  | .hbm => 6
  | .vmem => 6
  | .smem => 0
  | _ => 0

abbrev bufTy : (tb : Table) → Fin (tcTables nBuf tb) → BufTy
  | .hbm, ⟨0, _⟩ => ⟨S4x3072x3072, .bf16⟩
  | .hbm, ⟨1, _⟩ => ⟨S3072x8192, .fp8e4m3⟩
  | .hbm, ⟨2, _⟩ => ⟨S96x8192, .i8⟩
  | .hbm, ⟨3, _⟩ => ⟨S12288x8192, .bf16⟩
  | .hbm, ⟨4, _⟩ => ⟨S12288x3072, .fp8e4m3⟩
  | .hbm, ⟨5, _⟩ => ⟨S12288x96, .i8⟩
  | .local _ .vmem, ⟨0, _⟩ => ⟨S4x3072x3072, .bf16⟩
  | .local _ .vmem, ⟨1, _⟩ => ⟨S3072x8192, .fp8e4m3⟩
  | .local _ .vmem, ⟨2, _⟩ => ⟨S96x8192, .i8⟩
  | .local _ .vmem, ⟨3, _⟩ => ⟨S12288x8192, .bf16⟩
  | .local _ .vmem, ⟨4, _⟩ => ⟨S12288x3072, .fp8e4m3⟩
  | .local _ .vmem, ⟨5, _⟩ => ⟨S12288x96, .i8⟩
  | _, _ => ⟨S4x3072x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x3072x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x8192 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x3072 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x96 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelCases.lean ====
module

public import proofs.«01_k».proof.Proof.Gen.Kernel.Frame
public import proofs.«01_k».proof.Proof.Gen.Kernel.Skeleton
public import proofs.«01_k».proof.Proof.Gen.Kernel.Loops
public import Idealize.ShloMosaic.Lib.Claim

/- The packed kernel's two kinds of grid point, and the buffers its body is called on. -/

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- The arguments end as they began, from any run whose data starts at the arrays as the region finds them. -/
theorem args_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c))⟩) h

/-! ## The body's branch conditions -/

/-- The condition of the body's one conditional, at the grid coordinates: the column index is 0. -/
abbrev cond0_0 (i : grid0.Coords) : Prop := k0_cond1 i = 1#1
/-- It holds at every eighth point. -/
theorem hcond0_0 : ∀ t : Fin cfg0.N, cond0_0 (grid0.coords t) ↔ t.val % 8 = 0 :=
  (fun t => by
    have ht : t.val < 96 := Nat.lt_of_lt_of_eq t.isLt N_0
    have e0 : (grid0.coords t 0).val = t.val / 8 % 12 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-! ## The inputs are never idle -/

/-- The first argument's window is never idle. -/
theorem liveAt0_0 : ∀ t : Fin cfg0.N, cfg0.idle 0 (grid0.coords t) = false := fun _ => rfl
/-- Nor is the weights'. -/
theorem liveAt0_1 : ∀ t : Fin cfg0.N, cfg0.idle 1 (grid0.coords t) = false := fun _ => rfl
/-- Nor is the weight scales'. -/
theorem liveAt0_2 : ∀ t : Fin cfg0.N, cfg0.idle 2 (grid0.coords t) = false := fun _ => rfl

/-! ## The staging buffers and the scratch -/

/-- The current staging buffer of each window at point `t`, and that it is whole. -/
abbrev ms0_0 (t : Fin cfg0.N) : Memref sig .tc .vmem S1024x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3072x1024 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S96x1024 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x3072 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x96 .i8 := win0_5.stage (cfg0.slots t 5)
abbrev hs0_5 (t : Fin cfg0.N) : (ms0_5 t).IsWhole := hstage0_5 ((cfg0.slots t 5).cast nbuf0_5)
/-- The scratch. -/
abbrev scM0_0 : Memref sig .tc .vmem S1024x3072 .bf16 := Memref.whole cc0_scratch0

/-- The invariant of the run: the scratch at some contents, and the generator's register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Own

end
-- ==== Proof.KernelFirst.lean ====
module

public import proofs.«01_k».proof.Proof.KernelCases

/- The packed kernel's body at a point whose column index is 0. -/

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point whose column index is 0 (it quantises the row block, then multiplies) runs on any whole buffers: the inputs
    keep their contents, the outputs and the scratch end at some contents. -/
theorem kernelRun0_A (c : Dev nD) (i : grid0.Coords) (arg2 : Memref sig .tc .vmem S1024x3072 .bf16) (harg2 : arg2.IsWhole) (arg3 : Memref sig .tc .vmem S3072x1024 .fp8e4m3) (harg3 : arg3.IsWhole) (arg4 : Memref sig .tc .vmem S96x1024 .i8) (harg4 : arg4.IsWhole) (arg5 : Memref sig .tc .vmem S1024x1024 .bf16) (harg5 : arg5.IsWhole) (arg6 : Memref sig .tc .vmem S1024x3072 .fp8e4m3) (harg6 : arg6.IsWhole) (arg7 : Memref sig .tc .vmem S1024x96 .i8) (harg7 : arg7.IsWhole) (arg8 : Memref sig .tc .vmem S1024x3072 .bf16) (harg8 : arg8.IsWhole) (hc0 : cond0_0 i)
    (x0 : Vec F S1024x3072 .bf16) (x1 : Vec F S3072x1024 .fp8e4m3) (x2 : Vec F S96x1024 .i8) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_mxfp8_linear i arg2 harg2 arg3 harg3 arg4 harg4 arg5 harg5 arg6 harg6 arg7 harg7 arg8 harg8) K := by
    intro E K
    simp only [cc0_mxfp8_linear_eq_skeleton]; unfold cc0_mxfp8_linear_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _, _; isplitr; swap; · iexact HS0
    ipureintro; rfl

end Cert.Kernel.Own

end
-- ==== Proof.KernelLater.lean ====
module

public import proofs.«01_k».proof.Proof.KernelFirst

/- The packed kernel's body at a point whose column index is not 0. -/

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a point whose column index is not 0 (it only multiplies) runs on any whole buffers: the inputs keep their
    contents, the outputs and the scratch end at some contents. -/
theorem kernelRun0_B (c : Dev nD) (i : grid0.Coords) (arg2 : Memref sig .tc .vmem S1024x3072 .bf16) (harg2 : arg2.IsWhole) (arg3 : Memref sig .tc .vmem S3072x1024 .fp8e4m3) (harg3 : arg3.IsWhole) (arg4 : Memref sig .tc .vmem S96x1024 .i8) (harg4 : arg4.IsWhole) (arg5 : Memref sig .tc .vmem S1024x1024 .bf16) (harg5 : arg5.IsWhole) (arg6 : Memref sig .tc .vmem S1024x3072 .fp8e4m3) (harg6 : arg6.IsWhole) (arg7 : Memref sig .tc .vmem S1024x96 .i8) (harg7 : arg7.IsWhole) (arg8 : Memref sig .tc .vmem S1024x3072 .bf16) (harg8 : arg8.IsWhole) (hc0 : ¬cond0_0 i)
    (x0 : Vec F S1024x3072 .bf16) (x1 : Vec F S3072x1024 .fp8e4m3) (x2 : Vec F S96x1024 .i8) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_mxfp8_linear i arg2 harg2 arg3 harg3 arg4 harg4 arg5 harg5 arg6 harg6 arg7 harg7 arg8 harg8) K := by
    intro E K
    simp only [cc0_mxfp8_linear_eq_skeleton]; unfold cc0_mxfp8_linear_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _, _; isplitr; swap; · iexact HS0
    ipureintro; rfl

end Cert.Kernel.Own

end
-- ==== Proof.KernelFrame.lean ====
module

public import proofs.«01_k».proof.Proof.KernelLater

/- The packed kernel's run: its arguments end unchanged and its semaphores at zero. It says nothing of the results. -/

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows (3, 4, 5), of whose contents the frame says nothing. -/
def forgets0 : Fin 6 → Bool := fun w => w.val == 3 || w.val == 4 || w.val == 5

/-- What the run keeps on core `c`: the arrays as the region finds them, each input's buffer at its block after every point, the
    scratch at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The arrays are those that the region finds. -/
theorem A_eq (c : Dev nD) (w : Fin cfg0.W) : (dats m 0 c).A w = V m c (Pipeline.arrRef spec0 w) := by
  dsimp only [dats]

/-- The body leaves the inputs' blocks in place. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 800000 in
/-- The body at any point, by cases on the column index. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 96 := lt_of_lt_of_eq t.isLt (show cfg0.N = 96 from N_0)
  by_cases h0 : t.val % 8 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (fun h => h0 ((hcond0_0 t).mp h)) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The body at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The run: the inputs' arrays unchanged, and every semaphore at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the semaphores. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  args_of m ρ (fun c => (dats m 0 c).toRForget forgets0) (A_eq m) (run_main m ρ)

/-- The frame: the argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Own

end
-- ==== Proof.Tile.lean ====
module

public import proofs.«01_k».proof.Proof.Gen.KernelIdeal.Skeleton

/- What one trip of the kernel's quantising loop computes from the 64 rows it loads, one 64 x 128 column tile at a
   time: the 24 tiles of the rows all go through the same functions. -/

@[expose] public section

set_option maxRecDepth 16384

noncomputable section

namespace Cert.KernelIdeal.Own

open Idealize.ShloMosaic Cert.KernelIdeal Cert.KernelIdeal.Facts₀

variable {F : FTy → Type} [FloatOps F]

/-- Column tile `j` of 64 rows. -/
def colTile (v : FVec F S64x3072 .bf16) (j : Fin 24) : FVec F S64x128 .bf16 :=
  extractStridedSlice S64x128 ![0, 128 * j.val] v
    ⟨rfl, fun a => by
      have := j.isLt
      match a with
      | ⟨0, _⟩ => show 0 + 64 ≤ 64; omega
      | ⟨1, _⟩ => show 128 * j.val + 128 ≤ 3072; omega⟩

/-- One doubling step of the running maximum along the lanes: every lane against the lane `s` before it (around the
    end), rows of either parity rotated on their own and interleaved back. -/
def rollMax (s : BitVec 32) (a : FVec F S64x128 .bf16) : FVec F S64x128 .bf16 :=
  maximumf
    (interleaveRows S64x128 (rowsOfParity 0 S32x128 a (by decide)) (rowsOfParity 1 S32x128 a (by decide)) (by decide))
    (interleaveRows S64x128 (dynamicRotate 1 s none (rowsOfParity 0 S32x128 a (by decide)) (by decide))
      (dynamicRotate 1 s none (rowsOfParity 1 S32x128 a (by decide)) (by decide)) (by decide))

/-- The maximum of the magnitudes at a lane and the 31 lanes before it. -/
def laneMax (v : FVec F S64x128 .bf16) : FVec F S64x128 .bf16 :=
  rollMax 16#32 (rollMax 8#32 (rollMax 4#32 (rollMax 2#32 (rollMax 1#32 (absf v)))))

/-- A lane's number with its low five bits set: the last lane of the lane's block of 32. -/
def lastLane : IVec S64x128 32 :=
  ori (iota .tc S64x128 32 [1] iota_S64x128_d1_w32) (broadcast S64x128 31#32)

/-- A lane number made non-negative, through the layout the gather wants. -/
def wrapLane (l : IVec S64x128 32) : IVec S64x128 32 :=
  shapeCast S64x128 (shapeCast S64x128x1
    (select (cmpi .slt l (broadcast S64x128 0#32)) (addi l (broadcast S64x128 128#32)) l)
    shapeCasts_S64x128_S64x128x1) shapeCasts_S64x128x1_S64x128

/-- Each block's largest magnitude, at every lane of the block, over the largest code value. -/
def ratioTile (v : FVec F S64x128 .bf16) : FVec F S64x128 .f32 :=
  mulf (dynamicGather 1 (extf .f32
    (interleaveRows S64x128 (rowsOfParity 0 S32x128 (laneMax v) (by decide)) (rowsOfParity 1 S32x128 (laneMax v) (by decide))
      (by decide)) bitsLt_bf16_f32) (wrapLane lastLane))
    (broadcast S64x128 (Scalar.ofBits .f32 0x3B124925#32))

/-- The float whose exponent field is the given word and whose other bits are zero. -/
def powTile (n : IVec S64x128 32) : FVec F S64x128 .f32 :=
  bitcastToFloat .f32 (shli n (broadcast S64x128 23#32))

/-- One step of the search for an exponent field: keep the bit when the power of two it gives is at most the ratio. -/
def searchStep (r : FVec F S64x128 .f32) (bit : BitVec 32) (field : IVec S64x128 32) : IVec S64x128 32 :=
  select (cmpf .oge r (powTile (addi field (broadcast S64x128 bit)))) (addi field (broadcast S64x128 bit)) field

/-- The exponent field of a ratio, by eight steps. -/
def fieldTile (r : FVec F S64x128 .f32) : IVec S64x128 32 :=
  searchStep r 1#32 (searchStep r 2#32 (searchStep r 4#32 (searchStep r 8#32 (searchStep r 16#32 (searchStep r 32#32
    (searchStep r 64#32 (searchStep r 128#32 (broadcast S64x128 0#32))))))))

/-- The stored scale of a block, at every lane: one more than the ratio's exponent field, and 127 at either end of it. -/
def scaleTile (v : FVec F S64x128 .bf16) : IVec S64x128 32 :=
  select (ori (cmpi .eq (fieldTile (ratioTile v)) (broadcast S64x128 0#32))
      (cmpi .eq (fieldTile (ratioTile v)) (broadcast S64x128 255#32)))
    (broadcast S64x128 127#32) (addi (fieldTile (ratioTile v)) (broadcast S64x128 1#32))

/-- The codes of a tile: the entries over their block's scale, clipped and rounded to the code format. -/
def codesTile (v : FVec F S64x128 .bf16) : FVec F S64x128 .fp8e4m3 :=
  truncf .fp8e4m3 (minimumf (broadcast S64x128 (Scalar.ofBits .f32 0x43E00000#32))
    (maximumf (broadcast S64x128 (Scalar.ofBits .f32 0xC3E00000#32))
      (mulf (extf .f32 v bitsLt_bf16_f32) (powTile (subi (broadcast S64x128 254#32) (scaleTile v))))))
    bitsLt_fp8e4m3_f32

/-- The tile that enters the product: codes times scales. -/
def xbTile (v : FVec F S64x128 .bf16) : FVec F S64x128 .bf16 :=
  mulf (extf .bf16 (codesTile v) bitsLt_fp8e4m3_bf16) (truncf .bf16 (powTile (F := F) (scaleTile v)) bitsLt_bf16_f32)

/-- The lane numbers. -/
def lanes : IVec S64x128 32 := iota .tc S64x128 32 [1] iota_S64x128_d1_w32

/-- The remainder of the lane number by 4 (with the sign of a divisor). -/
def laneRem : IVec S64x128 32 :=
  select (andi (xori (cmpi .slt (remsi lanes (broadcast S64x128 (Scalar.select (Scalar.cmpi .eq 4#32 0#32) 1#32 4#32)))
        (broadcast S64x128 0#32))
      (broadcastTo S64x128 (broadcast S64x128 (Scalar.cmpi .slt (Scalar.select (Scalar.cmpi .eq 4#32 0#32) 1#32 4#32) 0#32))
        broadcasts_S64x128_S64x128))
      (cmpi .ne (remsi lanes (broadcast S64x128 (Scalar.select (Scalar.cmpi .eq 4#32 0#32) 1#32 4#32))) (broadcast S64x128 0#32)))
    (addi (remsi lanes (broadcast S64x128 (Scalar.select (Scalar.cmpi .eq 4#32 0#32) 1#32 4#32)))
      (broadcast S64x128 (Scalar.select (Scalar.cmpi .eq 4#32 0#32) 1#32 4#32)))
    (remsi lanes (broadcast S64x128 (Scalar.select (Scalar.cmpi .eq 4#32 0#32) 1#32 4#32)))

/-- The quotient of the lane number by 4, rounded down. -/
def laneQuot : IVec S64x128 32 :=
  select (andi (cmpi .ne (subi (extui 32 (cmpi .sgt lanes (broadcast S64x128 0#32)) natLt_1_32)
        (extui 32 (cmpi .slt lanes (broadcast S64x128 0#32)) natLt_1_32))
        (broadcast S64x128 (Scalar.subi (Scalar.extui (Scalar.cmpi .sgt 4#32 0#32)) (Scalar.extui (Scalar.cmpi .slt 4#32 0#32)))))
      (cmpi .ne (remsi lanes (broadcast S64x128 4#32)) (broadcast S64x128 0#32)))
    (subi (divsi lanes (broadcast S64x128 4#32)) (broadcast S64x128 1#32))
    (divsi lanes (broadcast S64x128 4#32))

/-- A tile's four scales repeated along the lanes: lane `l` holds the scale of block `l mod 4`. -/
def pickedTile (c : IVec S64x128 32) : IVec S64x128 32 :=
  dynamicGather 1 c (wrapLane (muli laneRem (broadcast S64x128 32#32)))

/-- The scales of the first `n` tiles, laid side by side four lanes to a tile. -/
def scalesUpTo (v : FVec F S64x3072 .bf16) : (n : ℕ) → n ≤ 24 → IVec S64x128 32
  | 0, _ => broadcast S64x128 0#32
  | n + 1, h => select (cmpi .eq laneQuot (broadcast S64x128 (BitVec.ofNat 32 n))) (pickedTile (scaleTile (colTile v ⟨n, h⟩)))
      (scalesUpTo v n (Nat.le_of_succ_le h))

/-- The scales of 64 rows as bytes. -/
def scalesRows (v : FVec F S64x3072 .bf16) : IVec S64x96 8 :=
  trunci 8 (extractStridedSlice S64x96 ![0, 0] (scalesUpTo v 24 (Nat.le_refl 24)) slices_S64x128_o0_0_S64x96) natLt_8_32

end Cert.KernelIdeal.Own

end
-- ==== Proof.Trip.lean ====
module

public import proofs.«01_k».proof.Proof.Gen.KernelIdeal.Loops
public import proofs.«01_k».proof.Proof.Tile
public import Idealize.ShloMosaic.Lib.WritesUnit
public import Idealize.ShloMosaic.Lib.Pipeline.Value

/- What one trip of the kernel's quantising loop writes: 24 column tiles of codes, 24 column tiles of dequantised
   values and one column of scales, all of them functions of the 64 rows the trip loads. -/

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI Idealize.SL.Sem
open Cert.KernelIdeal.Gen

variable {F : FTy → Type} [FloatOps F]

/-- Where trip `k` writes column tile `j`. -/
def colOff (k : Fin k0_t1_loop.trips) : Fin 24 → Fin S1024x3072.rank → ℕ :=
  ![k0_off2 k, k0_off3 k, k0_off4 k, k0_off5 k, k0_off6 k, k0_off7 k, k0_off8 k, k0_off9 k, k0_off10 k, k0_off11 k, k0_off12 k, k0_off13 k, k0_off14 k, k0_off15 k, k0_off16 k, k0_off17 k, k0_off18 k, k0_off19 k, k0_off20 k, k0_off21 k, k0_off22 k, k0_off23 k, k0_off24 k, k0_off25 k]

theorem colOff_eq (k : Fin k0_t1_loop.trips) (j : Fin 24) : colOff k j = ![64 * k.val, 128 * j.val] := by
  fin_cases j
  · exact Gen.k0_off2_eq k
  · exact Gen.k0_off3_eq k
  · exact Gen.k0_off4_eq k
  · exact Gen.k0_off5_eq k
  · exact Gen.k0_off6_eq k
  · exact Gen.k0_off7_eq k
  · exact Gen.k0_off8_eq k
  · exact Gen.k0_off9_eq k
  · exact Gen.k0_off10_eq k
  · exact Gen.k0_off11_eq k
  · exact Gen.k0_off12_eq k
  · exact Gen.k0_off13_eq k
  · exact Gen.k0_off14_eq k
  · exact Gen.k0_off15_eq k
  · exact Gen.k0_off16_eq k
  · exact Gen.k0_off17_eq k
  · exact Gen.k0_off18_eq k
  · exact Gen.k0_off19_eq k
  · exact Gen.k0_off20_eq k
  · exact Gen.k0_off21_eq k
  · exact Gen.k0_off22_eq k
  · exact Gen.k0_off23_eq k
  · exact Gen.k0_off24_eq k
  · exact Gen.k0_off25_eq k

/-- The loop makes at most 16 trips. -/
theorem trip_lt (k : Fin k0_t1_loop.trips) : k.val < 16 := Nat.lt_of_lt_of_le k.isLt k0_t1_abs.2.1

theorem colOff_inb (k : Fin k0_t1_loop.trips) (j : Fin 24) (a : Fin S1024x3072.rank) :
    colOff k j a + S64x128.size a ≤ S1024x3072.size a := by
  have hk := trip_lt k
  have hj := j.isLt
  rw [colOff_eq]
  match a with
  | ⟨0, _⟩ => show 64 * k.val + 64 ≤ 1024; omega
  | ⟨1, _⟩ => show 128 * j.val + 128 ≤ 3072; omega

/-- Rows `64 b .. 64 b + 63` of a block of 1024 rows. -/
def rowsOf (X : FVec F S1024x3072 .bf16) (b : Fin 16) : FVec F S64x3072 .bf16 :=
  extractStridedSlice S64x3072 ![64 * b.val, 0] X
    ⟨rfl, fun a => by
      have := b.isLt
      match a with
      | ⟨0, _⟩ => show 64 * b.val + 64 ≤ 1024; omega
      | ⟨1, _⟩ => show 0 + 3072 ≤ 3072; omega⟩

section Trip

variable (i : grid0.Coords) (arg2 : Memref sig .tc .vmem S1024x3072 .bf16) (k0_h1 : k0_cond1 i = 1#1)
  (X_arg2 : BufTy.Contents (Elt F) arg2.view.ty) (k : Fin k0_t1_loop.trips)

/-- The rows trip `k` loads. -/
def rowsAt : FVec F S64x3072 .bf16 :=
  shapeCast S64x3072 (View.readAt (Elt F) arg2.view
    (Rect.unit (s := S1024x3072) (k0_off1 k) S64x3072.size (Gen.k0_off1_inb i k k0_h1)).toLoadRect X_arg2)
    shapeCasts_S64x3072_S64x3072

theorem rowsAt_eq : rowsAt i arg2 k0_h1 X_arg2 k = rowsOf (arg2.view.read (Elt F) X_arg2) ⟨k.val, trip_lt k⟩ := by
  refine (shapeCast_self _ _).trans ?_
  funext x
  refine congrArg (arg2.view.read (Elt F) X_arg2) (funext fun a => Fin.ext ?_)
  show k0_off1 k a + 1 * (x a).val = ![64 * k.val, 0] a + (x a).val
  exact congrArg₂ (· + ·) (congrFun (Gen.k0_off1_eq k) a) (Nat.one_mul _)

variable (𝒱 : Variants) (c : Dev nD) (bd : Option 𝒱.V)
  (harg2 : arg2.IsWhole) (arg3 : Memref sig .tc .vmem S3072x1024 .fp8e4m3) (harg3 : arg3.IsWhole)
  (arg4 : Memref sig .tc .vmem S96x1024 .i8) (harg4 : arg4.IsWhole) (arg5 : Memref sig .tc .vmem S1024x1024 .bf16)
  (harg5 : arg5.IsWhole) (arg6 : Memref sig .tc .vmem S1024x3072 .fp8e4m3) (harg6 : arg6.IsWhole)
  (arg7 : Memref sig .tc .vmem S1024x96 .i8) (harg7 : arg7.IsWhole) (arg8 : Memref sig .tc .vmem S1024x3072 .bf16)
  (harg8 : arg8.IsWhole)

/-- The codes trip `k` writes. -/
theorem trip_codes :
    (trip_k0_t1 (F := F) 𝒱 c bd i arg2 harg2 arg3 harg3 arg4 harg4 arg5 harg5 arg6 harg6 arg7 harg7 arg8 harg8 k0_h1 X_arg2 k).1
      = View.tilePieces (s := S1024x3072) (e := .fp8e4m3) (Val := Elt F) S64x128.size (colOff k) (colOff_inb k)
          (fun j => codesTile (colTile (rowsAt i arg2 k0_h1 X_arg2 k) j)) 24 le_rfl := by
  unfold trip_k0_t1
  rfl

/-- The scales trip `k` writes. -/
theorem trip_scales :
    (trip_k0_t1 (F := F) 𝒱 c bd i arg2 harg2 arg3 harg3 arg4 harg4 arg5 harg5 arg6 harg6 arg7 harg7 arg8 harg8 k0_h1 X_arg2 k).2.1
      = [⟨Rect.unit (s := S1024x96) (k0_off26 k) S64x96.size (Gen.k0_off26_inb i k k0_h1),
          scalesRows (rowsAt i arg2 k0_h1 X_arg2 k)⟩] := by
  unfold trip_k0_t1
  rfl

/-- The dequantised values trip `k` writes. -/
theorem trip_values :
    (trip_k0_t1 (F := F) 𝒱 c bd i arg2 harg2 arg3 harg3 arg4 harg4 arg5 harg5 arg6 harg6 arg7 harg7 arg8 harg8 k0_h1 X_arg2 k).2.2.1
      = View.tilePieces (s := S1024x3072) (e := .bf16) (Val := Elt F) S64x128.size (colOff k) (colOff_inb k)
          (fun j => shapeCast S64x128 (xbTile (colTile (rowsAt i arg2 k0_h1 X_arg2 k) j)) rfl) 24 le_rfl := by
  unfold trip_k0_t1
  rfl

end Trip

end Cert.KernelIdeal.Own

end
-- ==== Proof.Loop.lean ====
module

public import proofs.«01_k».proof.Proof.Trip
public import Idealize.ShloMosaic.Lib.ValueIdxCore

/- What the quantising loop leaves in its three buffers: each 64-row band holds what its trip wrote, so the buffers
   hold three functions of the 1024 rows the loop reads. -/

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI Idealize.SL.Sem
open Idealize.ShloMosaic.ValueIdx
open Cert.KernelIdeal.Gen

variable {F : FTy → Type} [FloatOps F]

/-- The band of 64 rows a row lies in. -/
def band (r : Fin 1024) : Fin 16 := ⟨r.val / 64, by omega⟩

/-- A row's place in its band. -/
def inBand (r : Fin 1024) : Fin 64 := ⟨r.val % 64, by omega⟩

/-- The 128-lane tile a column lies in. -/
def tileOf (l : Fin 3072) : Fin 24 := ⟨l.val / 128, by omega⟩

/-- A column's lane in its tile. -/
def inTile (l : Fin 3072) : Fin 128 := ⟨l.val % 128, by omega⟩

/-- The codes of 1024 rows. -/
def codesBlk (X : FVec F S1024x3072 .bf16) : FVec F S1024x3072 .fp8e4m3 := fun y =>
  codesTile (colTile (rowsOf X (band (y 0))) (tileOf (y 1))) (ix2 (inBand (y 0)) (inTile (y 1)))

/-- The dequantised values of 1024 rows. -/
def xbBlk (X : FVec F S1024x3072 .bf16) : FVec F S1024x3072 .bf16 := fun y =>
  xbTile (colTile (rowsOf X (band (y 0))) (tileOf (y 1))) (ix2 (inBand (y 0)) (inTile (y 1)))

/-- The scales of 1024 rows. -/
def xsBlk (X : FVec F S1024x3072 .bf16) : IVec S1024x96 8 := fun y =>
  scalesRows (rowsOf X (band (y 0))) (ix2 (inBand (y 0)) (y 1))

section Loop

variable (𝒱 : Variants) (c : Dev nD) (bd : Option 𝒱.V) (i : grid0.Coords)
  (arg2 : Memref sig .tc .vmem S1024x3072 .bf16) (harg2 : arg2.IsWhole)
  (arg3 : Memref sig .tc .vmem S3072x1024 .fp8e4m3) (harg3 : arg3.IsWhole)
  (arg4 : Memref sig .tc .vmem S96x1024 .i8) (harg4 : arg4.IsWhole) (arg5 : Memref sig .tc .vmem S1024x1024 .bf16)
  (harg5 : arg5.IsWhole) (arg6 : Memref sig .tc .vmem S1024x3072 .fp8e4m3) (harg6 : arg6.IsWhole)
  (arg7 : Memref sig .tc .vmem S1024x96 .i8) (harg7 : arg7.IsWhole) (arg8 : Memref sig .tc .vmem S1024x3072 .bf16)
  (harg8 : arg8.IsWhole) (k0_h1 : k0_cond1 i = 1#1) (X_arg2 : BufTy.Contents (Elt F) arg2.view.ty)

/-- The pieces of the trips before `n`. -/
local notation "PB" n => pb_k0_t1 (F := F) 𝒱 c bd i arg2 harg2 arg3 harg3 arg4 harg4 arg5 harg5 arg6 harg6 arg7 harg7 arg8 harg8 k0_h1 X_arg2 n

/-- The tiles of one trip, read at a place in the trip's band. -/
theorem read_band {e : EltTy} {κ : Kind} {sp : Space} (v : View sig κ sp S1024x3072 e) (f : v.ty.Contents (Elt F))
    (k : Fin k0_t1_loop.trips) (P : Fin 24 → S64x128.Idx → Elt F e) (y : S1024x3072.Idx) (hy : (y 0).val / 64 = k.val) :
    v.read (Elt F) (v.writes (Elt F) f (View.tilePieces S64x128.size (colOff k) (colOff_inb k) P 24 le_rfl)) y
      = P (tileOf (y 1)) (ix2 (inBand (y 0)) (inTile (y 1))) := by
  have h0 : (y 0).val < 1024 := (y 0).isLt
  have h1 : (y 1).val < 3072 := (y 1).isLt
  refine View.read_tilePieces v f S64x128.size (colOff k) (colOff_inb k) P 24 le_rfl y (tileOf (y 1))
    (tileOf (y 1)).isLt (ix2 (inBand (y 0)) (inTile (y 1))) (fun a => ?_) 1 fun i' hi' => ?_
  · rw [colOff_eq]
    match a with
    | ⟨0, _⟩ => show (y 0).val = 64 * k.val + (y 0).val % 64; omega
    | ⟨1, _⟩ => show (y 1).val = 128 * ((y 1).val / 128) + (y 1).val % 128; omega
  · rw [colOff_eq]
    have hne : i'.val ≠ (y 1).val / 128 := fun h => hi' (Fin.ext h)
    show (y 1).val < 128 * i'.val ∨ 128 * i'.val + 128 ≤ (y 1).val
    omega

/-- The tiles of one trip leave the other bands alone. -/
theorem read_other {e : EltTy} {κ : Kind} {sp : Space} (v : View sig κ sp S1024x3072 e) (f : v.ty.Contents (Elt F))
    (k : Fin k0_t1_loop.trips) (P : Fin 24 → S64x128.Idx → Elt F e) (y : S1024x3072.Idx) (hy : (y 0).val / 64 < k.val) :
    v.read (Elt F) (v.writes (Elt F) f (View.tilePieces S64x128.size (colOff k) (colOff_inb k) P 24 le_rfl)) y
      = v.read (Elt F) f y := by
  refine View.read_tilePieces_miss v f S64x128.size (colOff k) (colOff_inb k) P 24 le_rfl y 0 fun i' _ => ?_
  rw [colOff_eq]
  show (y 0).val < 64 * k.val ∨ 64 * k.val + 64 ≤ (y 0).val
  omega

theorem codes_upTo (G : arg6.view.ty.Contents (Elt F)) (n : ℕ) (hn : n ≤ k0_t1_loop.trips) (y : S1024x3072.Idx)
    (hy : (y 0).val / 64 < n) :
    arg6.view.read (Elt F) (arg6.view.writes (Elt F) G (PB n).1) y = codesBlk (arg2.view.read (Elt F) X_arg2) y := by
  induction n with
  | zero => exact absurd hy (Nat.not_lt_zero _)
  | succ n ih =>
    rw [pb_k0_t1_succ (k := ⟨n, hn⟩)]
    show arg6.view.read (Elt F) (arg6.view.writes (Elt F) G (_ ++ _)) y = _
    rw [View.writes_append]
    refine (congrArg (fun L => arg6.view.read (Elt F) (arg6.view.writes (Elt F) _ L) y) (trip_codes i arg2 k0_h1 X_arg2
      ⟨n, hn⟩ 𝒱 c bd harg2 arg3 harg3 arg4 harg4 arg5 harg5 arg6 harg6 arg7 harg7 arg8 harg8)).trans ?_
    rcases Nat.lt_or_ge ((y 0).val / 64) n with h | h
    · exact (read_other _ _ ⟨n, hn⟩ _ y h).trans (ih (Nat.le_of_succ_le hn) h)
    · have hk : (y 0).val / 64 = n := by omega
      refine (read_band _ _ ⟨n, hn⟩ _ y hk).trans ?_
      rw [rowsAt_eq]
      exact congrArg (fun b => codesTile (colTile (rowsOf (arg2.view.read (Elt F) X_arg2) b) (tileOf (y 1)))
        (ix2 (inBand (y 0)) (inTile (y 1)))) (Fin.ext hk.symm)

theorem values_upTo (G : arg8.view.ty.Contents (Elt F)) (n : ℕ) (hn : n ≤ k0_t1_loop.trips) (y : S1024x3072.Idx)
    (hy : (y 0).val / 64 < n) :
    arg8.view.read (Elt F) (arg8.view.writes (Elt F) G (PB n).2.2) y = xbBlk (arg2.view.read (Elt F) X_arg2) y := by
  induction n with
  | zero => exact absurd hy (Nat.not_lt_zero _)
  | succ n ih =>
    rw [pb_k0_t1_succ (k := ⟨n, hn⟩)]
    show arg8.view.read (Elt F) (arg8.view.writes (Elt F) G (_ ++ _)) y = _
    rw [View.writes_append]
    refine (congrArg (fun L => arg8.view.read (Elt F) (arg8.view.writes (Elt F) _ L) y) (trip_values i arg2 k0_h1 X_arg2
      ⟨n, hn⟩ 𝒱 c bd harg2 arg3 harg3 arg4 harg4 arg5 harg5 arg6 harg6 arg7 harg7 arg8 harg8)).trans ?_
    rcases Nat.lt_or_ge ((y 0).val / 64) n with h | h
    · exact (read_other _ _ ⟨n, hn⟩ _ y h).trans (ih (Nat.le_of_succ_le hn) h)
    · have hk : (y 0).val / 64 = n := by omega
      refine (read_band _ _ ⟨n, hn⟩ _ y hk).trans ?_
      rw [shapeCast_self, rowsAt_eq]
      exact congrArg (fun b => xbTile (colTile (rowsOf (arg2.view.read (Elt F) X_arg2) b) (tileOf (y 1)))
        (ix2 (inBand (y 0)) (inTile (y 1)))) (Fin.ext hk.symm)

theorem scales_upTo (G : arg7.view.ty.Contents (Elt F)) (n : ℕ) (hn : n ≤ k0_t1_loop.trips) (y : S1024x96.Idx)
    (hy : (y 0).val / 64 < n) :
    arg7.view.read (Elt F) (arg7.view.writes (Elt F) G (PB n).2.1) y = xsBlk (arg2.view.read (Elt F) X_arg2) y := by
  induction n with
  | zero => exact absurd hy (Nat.not_lt_zero _)
  | succ n ih =>
    rw [pb_k0_t1_succ (k := ⟨n, hn⟩)]
    show arg7.view.read (Elt F) (arg7.view.writes (Elt F) G (_ ++ _)) y = _
    rw [View.writes_append]
    refine (congrArg (fun L => arg7.view.read (Elt F) (arg7.view.writes (Elt F) _ L) y) (trip_scales i arg2 k0_h1 X_arg2
      ⟨n, hn⟩ 𝒱 c bd harg2 arg3 harg3 arg4 harg4 arg5 harg5 arg6 harg6 arg7 harg7 arg8 harg8)).trans ?_
    rcases Nat.lt_or_ge ((y 0).val / 64) n with h | h
    · refine (View.read_writes_cons_unit_of_not_mem arg7.view _ (Gen.k0_off26_inb i ⟨n, hn⟩ k0_h1) _ [] y
        (Gen.k0_off26_eq ⟨n, hn⟩) 0 ?_).trans (ih (Nat.le_of_succ_le hn) h)
      show (y 0).val < 64 * n ∨ 64 * n + 64 ≤ (y 0).val
      omega
    · have hk : (y 0).val / 64 = n := by omega
      refine (View.read_writes_cons_unit_of_mem arg7.view _ (Gen.k0_off26_inb i ⟨n, hn⟩ k0_h1) _ [] y
        (ix2 (inBand (y 0)) (y 1)) (Gen.k0_off26_eq ⟨n, hn⟩) fun a => ?_).trans ?_
      · match a with
        | ⟨0, _⟩ => show (y 0).val = 64 * n + (y 0).val % 64; omega
        | ⟨1, _⟩ => show (y 1).val = 0 + (y 1).val; omega
      · rw [rowsAt_eq]
        exact congrArg (fun b => scalesRows (rowsOf (arg2.view.read (Elt F) X_arg2) b) (ix2 (inBand (y 0)) (y 1)))
          (Fin.ext hk.symm)

theorem trips_eq : k0_t1_loop.trips = 16 := by decide

theorem band_lt (r : Fin 1024) : r.val / 64 < k0_t1_loop.trips := by rw [trips_eq]; omega

/-- The codes buffer after the loop. -/
theorem codes_loop (G : arg6.view.ty.Contents (Elt F)) :
    arg6.view.read (Elt F) (arg6.view.writes (Elt F) G (PB k0_t1_loop.trips).1) = codesBlk (arg2.view.read (Elt F) X_arg2) :=
  funext fun y => codes_upTo 𝒱 c bd i arg2 harg2 arg3 harg3 arg4 harg4 arg5 harg5 arg6 harg6 arg7 harg7 arg8 harg8 k0_h1
    X_arg2 G _ le_rfl y (band_lt (y 0))

/-- The buffer of dequantised values after the loop. -/
theorem values_loop (G : arg8.view.ty.Contents (Elt F)) :
    arg8.view.read (Elt F) (arg8.view.writes (Elt F) G (PB k0_t1_loop.trips).2.2) = xbBlk (arg2.view.read (Elt F) X_arg2) :=
  funext fun y => values_upTo 𝒱 c bd i arg2 harg2 arg3 harg3 arg4 harg4 arg5 harg5 arg6 harg6 arg7 harg7 arg8 harg8 k0_h1
    X_arg2 G _ le_rfl y (band_lt (y 0))

/-- The scales buffer after the loop. -/
theorem scales_loop (G : arg7.view.ty.Contents (Elt F)) :
    arg7.view.read (Elt F) (arg7.view.writes (Elt F) G (PB k0_t1_loop.trips).2.1) = xsBlk (arg2.view.read (Elt F) X_arg2) :=
  funext fun y => scales_upTo 𝒱 c bd i arg2 harg2 arg3 harg3 arg4 harg4 arg5 harg5 arg6 harg6 arg7 harg7 arg8 harg8 k0_h1
    X_arg2 G _ le_rfl y (band_lt (y 0))

end Loop

end Cert.KernelIdeal.Own

end
-- ==== Proof.Body.lean ====
module

public import proofs.«01_k».proof.Proof.Loop
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

/- What the kernel's body does at one grid point, on any buffers: at the first point of a row block it quantises the
   block and multiplies, at the others it multiplies what the first one left in the scratch. -/

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The body's branch: is this the first point of a row block? -/
abbrev firstCol (i : grid0.Coords) : Prop := k0_cond1 i = 1#1

theorem firstCol_iff : ∀ t : Fin cfg0.N, firstCol (grid0.coords t) ↔ t.val % 8 = 0 :=
  (fun t => by
    have ht : t.val < 96 := Nat.lt_of_lt_of_eq t.isLt N_0
    have e0 : (grid0.coords t 0).val = t.val / 8 % 12 := Pipeline.Grid.coords_val t 0 (by decide) rfl
    have e1 : (grid0.coords t 1).val = t.val / 1 % 8 := Pipeline.Grid.coords_val t 1 (by decide) rfl
    simp only [firstCol, k0_cond1, e0, e1]
    word_cmp
   : ∀ t : Fin grid0.N, firstCol (grid0.coords t) ↔ t.val % 8 = 0)

section Runs

variable (c : Dev nD) (i : grid0.Coords)
  (arg2 : Memref sig .tc .vmem S1024x3072 .bf16) (harg2 : arg2.IsWhole)
  (arg3 : Memref sig .tc .vmem S3072x1024 .fp8e4m3) (harg3 : arg3.IsWhole)
  (arg4 : Memref sig .tc .vmem S96x1024 .i8) (harg4 : arg4.IsWhole) (arg5 : Memref sig .tc .vmem S1024x1024 .bf16)
  (harg5 : arg5.IsWhole) (arg6 : Memref sig .tc .vmem S1024x3072 .fp8e4m3) (harg6 : arg6.IsWhole)
  (arg7 : Memref sig .tc .vmem S1024x96 .i8) (harg7 : arg7.IsWhole) (arg8 : Memref sig .tc .vmem S1024x3072 .bf16)
  (harg8 : arg8.IsWhole)
  (x0 : Vec F S1024x3072 .bf16) (x1 : Vec F S3072x1024 .fp8e4m3) (x2 : Vec F S96x1024 .i8)

set_option maxHeartbeats 1000000 in
/-- At the first point of a row block: the codes, scales and dequantised values of the block, and the product of the
    latter with the dequantised weight tile. -/
theorem run_first (hc0 : firstCol i) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay5 x2 x1 (xbBlk x0)) ∗ owns (c : Thread nD τ) arg6 fullShare (codesBlk x0) ∗ owns (c : Thread nD τ) arg7 fullShare (xsBlk x0 : Vec F S1024x96 .i8) ∗ owns (c : Thread nD τ) arg8 fullShare (xbBlk x0)) -∗ K ⟨⟩))
      ⊢ wp frame (wpE (defs₀ (F := F)) Variants.none c none) E (cc0_mxfp8_linear i arg2 harg2 arg3 harg3 arg4 harg4 arg5 harg5 arg6 harg6 arg7 harg7 arg8 harg8) K := by
  simp only [cc0_mxfp8_linear_eq_skeleton]; unfold cc0_mxfp8_linear_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
  sl_exec (disch := first | sl_exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; swap; · iexact H3
    ipureintro
    refine (View.read_writes_full arg5.view f3 _ _ _).trans ?_
    exact congr (congr (congrArg k0_pay5 ((View.readAt_full arg4.view f2 _).trans hf2))
      ((View.readAt_full arg3.view f1 _).trans hf1))
      ((View.readAt_full arg8.view _ _).trans
        ((values_loop Variants.none c none i arg2 harg2 arg3 harg3 arg4 harg4 arg5 harg5 arg6 harg6 arg7 harg7 arg8 harg8
          hc0 f0 fs0).trans (congrArg xbBlk hf0)))
  isplitl [H4]
  · iexists _; isplitr; swap; · iexact H4
    ipureintro
    exact (codes_loop Variants.none c none i arg2 harg2 arg3 harg3 arg4 harg4 arg5 harg5 arg6 harg6 arg7 harg7 arg8 harg8 hc0 f0 f4).trans (congrArg codesBlk hf0)
  isplitl [H5]
  · iexists _; isplitr; swap; · iexact H5
    ipureintro
    exact (scales_loop Variants.none c none i arg2 harg2 arg3 harg3 arg4 harg4 arg5 harg5 arg6 harg6 arg7 harg7 arg8 harg8 hc0 f0 f5).trans (congrArg xsBlk hf0)
  iexists _; isplitr; swap; · iexact HS0
  ipureintro
  exact (values_loop Variants.none c none i arg2 harg2 arg3 harg3 arg4 harg4 arg5 harg5 arg6 harg6 arg7 harg7 arg8 harg8 hc0 f0 fs0).trans (congrArg xbBlk hf0)

set_option maxHeartbeats 1000000 in
/-- At the other points of a row block: the product of the dequantised values the scratch holds with the dequantised
    weight tile, everything else as it was. -/
theorem run_later (hc0 : ¬ firstCol i) (x4 : Vec F S1024x3072 .fp8e4m3) (x5 : Vec F S1024x96 .i8)
    (xb : Vec F S1024x3072 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4 ∗ owns (c : Thread nD τ) arg7 fullShare x5 ∗ owns (c : Thread nD τ) arg8 fullShare xb
        ∗ (iprop(owns (c : Thread nD τ) arg2 fullShare x0 ∗ owns (c : Thread nD τ) arg3 fullShare x1 ∗ owns (c : Thread nD τ) arg4 fullShare x2 ∗ owns (c : Thread nD τ) arg5 fullShare (k0_pay5 x2 x1 xb) ∗ owns (c : Thread nD τ) arg6 fullShare x4 ∗ owns (c : Thread nD τ) arg7 fullShare x5 ∗ owns (c : Thread nD τ) arg8 fullShare xb) -∗ K ⟨⟩))
      ⊢ wp frame (wpE (defs₀ (F := F)) Variants.none c none) E (cc0_mxfp8_linear i arg2 harg2 arg3 harg3 arg4 harg4 arg5 harg5 arg6 harg6 arg7 harg7 arg8 harg8) K := by
  simp only [cc0_mxfp8_linear_eq_skeleton]; unfold cc0_mxfp8_linear_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, Hk⟩
  sl_exec (disch := first | sl_exact hc0)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; swap; · iexact H3
    ipureintro
    refine (View.read_writes_full arg5.view f3 _ _ _).trans ?_
    exact congr (congr (congrArg k0_pay5 ((View.readAt_full arg4.view f2 _).trans hf2))
      ((View.readAt_full arg3.view f1 _).trans hf1)) ((View.readAt_full arg8.view _ _).trans hfs0)
  isplitl [H4]
  · iexists _; isplitr; · ipureintro; exact hf4
    iexact H4
  isplitl [H5]
  · iexists _; isplitr; · ipureintro; exact hf5
    iexact H5
  iexists _; isplitr; · ipureintro; exact hfs0
  iexact HS0

end Runs

end Cert.KernelIdeal.Own

end
-- ==== Proof.Blocks.lean ====
module

public import proofs.«01_k».proof.Proof.Body
public import proofs.«01_k».proof.Proof.Gen.KernelIdeal.Frame

/- Where the blocks of the grid lie: point `t` of the grid is row block `t / 8` and column block `t mod 8`. -/

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI Idealize.SL.Sem
open Idealize.ShloMosaic.ValueIdx
open Cert.KernelIdeal.Gen

variable {F : FTy → Type} [FloatOps F]
variable (m : (ℓ : Loc nD τ sig) → Buf (Elt F) ℓ) (c : Dev nD)

theorem point_lt (t : Fin cfg0.N) : t.val < 96 := Nat.lt_of_lt_of_eq t.isLt N_0

theorem coord0 (t : Fin cfg0.N) : (grid0.coords t 0).val = t.val / 8 := by
  have h : (grid0.coords t 0).val = t.val / 8 % 12 := Pipeline.Grid.coords_val t 0 (by decide) rfl
  have := point_lt t
  omega

theorem coord1 (t : Fin cfg0.N) : (grid0.coords t 1).val = t.val % 8 := by
  have h : (grid0.coords t 1).val = t.val / 1 % 8 := Pipeline.Grid.coords_val t 1 (by decide) rfl
  omega

/-- Row `r` of point `t`'s row block. -/
def rowAt (t : Fin cfg0.N) (r : Fin 1024) : Fin 12288 := ⟨1024 * (t.val / 8) + r.val, by have := point_lt t; omega⟩

/-- Column `l` of point `t`'s column block. -/
def colAt (t : Fin cfg0.N) (l : Fin 1024) : Fin 8192 := ⟨1024 * (t.val % 8) + l.val, by omega⟩

theorem ofNat_coord0 (t : Fin cfg0.N) : (BitVec.ofNat 32 (grid0.coords t 0).val).toNat = t.val / 8 := by
  rw [coord0, BitVec.toNat_ofNat]
  have := point_lt t
  omega

theorem ofNat_coord1 (t : Fin cfg0.N) : (BitVec.ofNat 32 (grid0.coords t 1).val).toNat = t.val % 8 := by
  rw [coord1, BitVec.toNat_ofNat]
  omega

theorem iblk0_apply (t : Fin cfg0.N) (y : S1024x3072.Idx) :
    iblk m c 0 t y = V m c main_v0 (ix2 (rowAt t (y 0)) (y 1)) := by
  refine congrArg (V m c main_v0) (funext fun a => Fin.ext ?_)
  match a with
  | ⟨0, _⟩ =>
    show (BitVec.ofNat 32 (grid0.coords t 0).val).toNat * 1024 + 1 * (y 0).val = 1024 * (t.val / 8) + (y 0).val
    rw [ofNat_coord0]; omega
  | ⟨1, _⟩ =>
    show 0 * 3072 + 1 * (y 1).val = (y 1).val
    omega

theorem iblk1_apply (t : Fin cfg0.N) (y : S3072x1024.Idx) :
    iblk m c 1 t y = V m c main_arg1 (ix2 (y 0) (colAt t (y 1))) := by
  refine congrArg (V m c main_arg1) (funext fun a => Fin.ext ?_)
  match a with
  | ⟨0, _⟩ =>
    show 0 * 3072 + 1 * (y 0).val = (y 0).val
    omega
  | ⟨1, _⟩ =>
    show (BitVec.ofNat 32 (grid0.coords t 1).val).toNat * 1024 + 1 * (y 1).val = 1024 * (t.val % 8) + (y 1).val
    rw [ofNat_coord1]; omega

theorem iblk2_apply (t : Fin cfg0.N) (y : S96x1024.Idx) :
    iblk m c 2 t y = V m c main_arg2 (ix2 (y 0) (colAt t (y 1))) := by
  refine congrArg (V m c main_arg2) (funext fun a => Fin.ext ?_)
  match a with
  | ⟨0, _⟩ =>
    show 0 * 96 + 1 * (y 0).val = (y 0).val
    omega
  | ⟨1, _⟩ =>
    show (BitVec.ofNat 32 (grid0.coords t 1).val).toNat * 1024 + 1 * (y 1).val = 1024 * (t.val % 8) + (y 1).val
    rw [ofNat_coord1]; omega

/-- Points of one row block read one block of the first input. -/
theorem iblk0_congr {t t' : Fin cfg0.N} (h : t.val / 8 = t'.val / 8) : iblk m c 0 t = iblk m c 0 t' := by
  funext y
  rw [iblk0_apply, iblk0_apply]
  refine congrArg (V m c main_v0) (congrArg (fun r => ix2 r (y 1)) (Fin.ext ?_))
  show 1024 * (t.val / 8) + _ = 1024 * (t'.val / 8) + _
  rw [h]

end Cert.KernelIdeal.Own

end
-- ==== Proof.Run.lean ====
module

public import proofs.«01_k».proof.Proof.Blocks
public import Idealize.ShloMosaic.Lib.Claim

/- The kernel's run: at each grid point the body leaves the product of the row block's dequantised values with the
   dequantised weight tile, and the row block's codes and scales; the scratch carries the dequantised values from the
   first point of a row block to the others. -/

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The current staging buffer of each window at point `t`. -/
abbrev ms0 (t : Fin cfg0.N) : Memref sig .tc .vmem S1024x3072 .bf16 := win0_0.stage (cfg0.slots t 0)
abbrev ms1 (t : Fin cfg0.N) : Memref sig .tc .vmem S3072x1024 .fp8e4m3 := win0_1.stage (cfg0.slots t 1)
abbrev ms2 (t : Fin cfg0.N) : Memref sig .tc .vmem S96x1024 .i8 := win0_2.stage (cfg0.slots t 2)
abbrev ms3 (t : Fin cfg0.N) : Memref sig .tc .vmem S1024x1024 .bf16 := win0_3.stage (cfg0.slots t 3)
abbrev ms4 (t : Fin cfg0.N) : Memref sig .tc .vmem S1024x3072 .fp8e4m3 := win0_4.stage (cfg0.slots t 4)
abbrev ms5 (t : Fin cfg0.N) : Memref sig .tc .vmem S1024x96 .i8 := win0_5.stage (cfg0.slots t 5)

/-- The scratch. -/
abbrev scratch : Memref sig .tc .vmem S1024x3072 .bf16 := Memref.whole cc0_scratch0

theorem PhiA_eq (c : Dev nD) :
    (Pipeline.ΦA spec0 c : sProp 𝕄) = iprop(iprop((∃ d, owns (c : Thread nD τ) scratch fullShare d)) ∗ (∃ r, prngReg c r)) := by
  unfold Pipeline.ΦA; rw [scopedRest0_eq]; simp only [scratch, owns_whole]; try rfl

/-- The three input blocks of point `t`. -/
abbrev xBlk (c : Dev nD) (t : Fin cfg0.N) : Vec F S1024x3072 .bf16 := iblk m c 0 t
abbrev wBlk (c : Dev nD) (t : Fin cfg0.N) : Vec F S3072x1024 .fp8e4m3 := iblk m c 1 t
abbrev wsBlk (c : Dev nD) (t : Fin cfg0.N) : Vec F S96x1024 .i8 := iblk m c 2 t

/-- The invariant before point `n`: after the first point the scratch holds the dequantised values of the row block
    of the point before. -/
def scratchAt (c : Dev nD) (n : ℕ) (h : n ≤ cfg0.N) : sProp 𝕄 :=
  iprop((∃ d, ⌜∀ h0 : n ≠ 0, d = xbBlk (xBlk m c ⟨n - 1, by omega⟩)⌝ ∗ owns (c : Thread nD τ) scratch fullShare d)
    ∗ (∃ r, prngReg c r))

/-- The proof data: the arrays as launched; after each point every input buffer at its block, the outputs at the
    product and at the row block's codes and scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay5 (wsBlk m c t) (wBlk m c t) (xbBlk (xBlk m c t))
    | ⟨4, _⟩ => codesBlk (xBlk m c t)
    | ⟨5, _⟩ => xsBlk (xBlk m c t)
  Φ t := scratchAt m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = k0_pay5 (wsBlk m c t) (wBlk m c t) (xbBlk (xBlk m c t)) := by dsimp only [dats]
theorem after4 (c : Dev nD) (t : Fin cfg0.N) : (dats m 0 c).after 4 t = codesBlk (xBlk m c t) := by dsimp only [dats]
theorem after5 (c : Dev nD) (t : Fin cfg0.N) : (dats m 0 c).after 5 t = xsBlk (xBlk m c t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- The point before, in the same row block, read the same rows. -/
theorem xBlk_pred (c : Dev nD) (t : Fin cfg0.N) (ht : t.val % 8 ≠ 0) :
    xBlk m c ⟨t.val - 1, Nat.lt_of_le_of_lt (Nat.sub_le _ _) t.isLt⟩ = xBlk m c t :=
  iblk0_congr m c (show (t.val - 1) / 8 = t.val / 8 by omega)

theorem flush4_false (t : Fin cfg0.N) (h : t.val % 8 ≠ 7) : (cfg0.win 4).flush t = false := by
  cases hf : (cfg0.win 4).flush t
  · rfl
  · exact absurd ((flush0_4 t).mp hf) h

theorem flush5_false (t : Fin cfg0.N) (h : t.val % 8 ≠ 7) : (cfg0.win 5).flush t = false := by
  cases hf : (cfg0.win 5).flush t
  · rfl
  · exact absurd ((flush0_5 t).mp hf) h

/-- The outputs the body writes only at the first point of a row block are idle at the others. -/
theorem idle4 (t : Fin cfg0.N) : cfg0.idle 4 (grid0.coords t) = !(k0_cond1 (grid0.coords t) == 1#1) := rfl
theorem idle5 (t : Fin cfg0.N) : cfg0.idle 5 (grid0.coords t) = !(k0_cond1 (grid0.coords t) == 1#1) := rfl

theorem live_first (t : Fin cfg0.N) (h : t.val % 8 = 0) : (!(k0_cond1 (grid0.coords t) == 1#1)) = false := by
  rw [(firstCol_iff t).mpr h]; rfl

theorem idle_later (t : Fin cfg0.N) (h : t.val % 8 ≠ 0) : (!(k0_cond1 (grid0.coords t) == 1#1)) = true := by
  rw [Bool.not_eq_true', beq_eq_false_iff_ne]
  exact fun e => h ((firstCol_iff t).mp e)

/-- Between the first point of a row block and the last, the codes stay in their buffer. -/
theorem before4 (c : Dev nD) (d) : ∀ (n : ℕ) (t : Fin cfg0.N), t.val = n → t.val % 8 ≠ 0 →
    (dats m 0 c).before 4 t d = codesBlk (xBlk m c t) := by
  intro n
  induction n with
  | zero => intro t ht h; omega
  | succ n ih =>
    intro t ht h
    rw [Dat.before_of_pos _ 4 t (by omega) rfl, flush4_false _ (show (t.val - 1) % 8 ≠ 7 by omega), if_neg Bool.false_ne_true]
    unfold Dat.left
    by_cases h8 : (t.val - 1) % 8 = 0
    · rw [idle4, live_first _ h8]
      exact (after4 m c _).trans (congrArg codesBlk (xBlk_pred m c t h))
    · rw [idle4, idle_later _ h8]
      exact (ih _ (by show t.val - 1 = n; omega) h8).trans (congrArg codesBlk (xBlk_pred m c t h))

/-- Likewise the scales. -/
theorem before5 (c : Dev nD) (d) : ∀ (n : ℕ) (t : Fin cfg0.N), t.val = n → t.val % 8 ≠ 0 →
    (dats m 0 c).before 5 t d = xsBlk (xBlk m c t) := by
  intro n
  induction n with
  | zero => intro t ht h; omega
  | succ n ih =>
    intro t ht h
    rw [Dat.before_of_pos _ 5 t (by omega) rfl, flush5_false _ (show (t.val - 1) % 8 ≠ 7 by omega), if_neg Bool.false_ne_true]
    unfold Dat.left
    by_cases h8 : (t.val - 1) % 8 = 0
    · rw [idle5, live_first _ h8]
      exact (after5 m c _).trans (congrArg xsBlk (xBlk_pred m c t h))
    · rw [idle5, idle_later _ h8]
      exact (ih _ (by show t.val - 1 = n; omega) h8).trans (congrArg xsBlk (xBlk_pred m c t h))

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem phi_pre (c : Dev nD) (t : Fin cfg0.N) :
    (dats m 0 c).Φ t.castSucc = scratchAt m c t.val (Nat.le_of_lt t.isLt) := by
  dsimp only [dats]; exact Pipeline.Dat.Φ_castSucc (scratchAt m c) t

theorem phi_post (c : Dev nD) (t : Fin cfg0.N) : (dats m 0 c).Φ t.succ = scratchAt m c (t.val + 1) t.isLt := by
  dsimp only [dats]; rfl

theorem leaves0 (c : Dev nD) (t : Fin cfg0.N) :
    (dats m 0 c).leavesExact 0 t = owns (c : Thread nD τ) (ms0 t) fullShare (xBlk m c t) := by
  unfold Dat.leavesExact; rw [show cfg0.idle 0 (grid0.coords t) = false from rfl, after0]
theorem leaves1 (c : Dev nD) (t : Fin cfg0.N) :
    (dats m 0 c).leavesExact 1 t = owns (c : Thread nD τ) (ms1 t) fullShare (wBlk m c t) := by
  unfold Dat.leavesExact; rw [show cfg0.idle 1 (grid0.coords t) = false from rfl, after1]
theorem leaves2 (c : Dev nD) (t : Fin cfg0.N) :
    (dats m 0 c).leavesExact 2 t = owns (c : Thread nD τ) (ms2 t) fullShare (wsBlk m c t) := by
  unfold Dat.leavesExact; rw [show cfg0.idle 2 (grid0.coords t) = false from rfl, after2]
theorem leaves3 (c : Dev nD) (t : Fin cfg0.N) :
    (dats m 0 c).leavesExact 3 t = owns (c : Thread nD τ) (ms3 t) fullShare (k0_pay5 (wsBlk m c t) (wBlk m c t) (xbBlk (xBlk m c t))) := by
  unfold Dat.leavesExact; rw [show cfg0.idle 3 (grid0.coords t) = false from rfl, after3]
theorem leaves4 (c : Dev nD) (t : Fin cfg0.N) :
    owns (c : Thread nD τ) (ms4 t) fullShare (codesBlk (xBlk m c t)) ⊢ ((dats m 0 c).leavesExact 4 t : sProp 𝕄) := by
  by_cases h0 : t.val % 8 = 0
  · unfold Dat.leavesExact; rw [idle4, live_first t h0, after4]
  by_cases h7 : t.val % 8 = 7
  · unfold Dat.leavesExact; rw [idle4, idle_later t h0, (flush0_4 t).mpr h7, after4]
  · rw [Dat.leavesExact_idle _ 4 t ((idle4 t).trans (idle_later t h0)) (flush4_false t h7)]
    simp only [before4 m c _ _ t rfl h0]
    iintro H
    iexists (codesBlk (xBlk m c t))
    iexact H

theorem leaves5 (c : Dev nD) (t : Fin cfg0.N) :
    owns (c : Thread nD τ) (ms5 t) fullShare (xsBlk (xBlk m c t) : Vec F S1024x96 .i8) ⊢ ((dats m 0 c).leavesExact 5 t : sProp 𝕄) := by
  by_cases h0 : t.val % 8 = 0
  · unfold Dat.leavesExact; rw [idle5, live_first t h0, after5]
  by_cases h7 : t.val % 8 = 7
  · unfold Dat.leavesExact; rw [idle5, idle_later t h0, (flush0_5 t).mpr h7, after5]
  · rw [Dat.leavesExact_idle _ 5 t ((idle5 t).trans (idle_later t h0)) (flush5_false t h7)]
    simp only [before5 m c _ _ t rfl h0]
    iintro H
    iexists (xsBlk (xBlk m c t) : Vec F S1024x96 .i8)
    iexact H

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [phi_pre, phi_post, leaves0, leaves1, leaves2, leaves3,
    show (dats m 0 c).owesAt () t.succ = (dats m 0 c).owesAt () t.castSucc from rfl]
  unfold scratchAt
  by_cases h0 : t.val % 8 = 0
  · iintro ⟨⟨⟨%ds, -, HS0⟩, Hg⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ (xBlk m c t) (wBlk m c t) (wsBlk m c t) ((firstCol_iff t).mpr h0) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexists _; iexact HS0
    iintro ⟨H0, H1, H2, H3, H4, H5, HS0⟩
    isplitl [HS0 Hg]
    · isplitl [HS0]
      · iexists _
        isplitr
        swap
        · iexact HS0
        ipureintro
        intro _
        rfl
      iexact Hg
    isplitl [Ho]; · iexact Ho
    isplitl [H0]; · iexact H0
    isplitl [H1]; · iexact H1
    isplitl [H2]; · iexact H2
    isplitl [H3]; · iexact H3
    isplitl [H4]; · iapply (leaves4 m c t); iexact H4
    iapply (leaves5 m c t); iexact H5
  · simp only [before4 m c _ _ t rfl h0, before5 m c _ _ t rfl h0]
    iintro ⟨⟨⟨%ds, %hds, HS0⟩, Hg⟩, Ho, ⟨%d0, H0⟩, ⟨%d1, H1⟩, ⟨%d2, H2⟩, ⟨%d3, H3⟩, ⟨%d4, H4⟩, ⟨%d5, H5⟩⟩
    have hds' : ds = xbBlk (xBlk m c t) :=
      (hds (fun h => h0 (by omega))).trans (congrArg xbBlk (xBlk_pred m c t h0))
    subst hds'
    iapply (run_later c (grid0.coords t) _ _ _ _ _ _ _ _ _ _ _ _ _ _ (xBlk m c t) (wBlk m c t) (wsBlk m c t) (fun h => h0 ((firstCol_iff t).mp h))
      (codesBlk (xBlk m c t)) (xsBlk (xBlk m c t)) (xbBlk (xBlk m c t)) Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    iintro ⟨H0, H1, H2, H3, H4, H5, HS0⟩
    isplitl [HS0 Hg]
    · isplitl [HS0]
      · iexists _
        isplitr
        swap
        · iexact HS0
        ipureintro
        intro _
        rfl
      iexact Hg
    isplitl [Ho]; · iexact Ho
    isplitl [H0]; · iexact H0
    isplitl [H1]; · iexact H1
    isplitl [H2]; · iexact H2
    isplitl [H3]; · iexact H3
    isplitl [H4]; · iapply (leaves4 m c t); iexact H4
    iapply (leaves5 m c t); iexact H5

/-- The body table's row at point `t` is the body. -/
theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The run: every execution terminates with every array as the proof data says and all counters at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      rw [PhiA_eq]
      show _ ⊢ scratchAt m c 0 (Nat.zero_le _)
      unfold scratchAt
      iintro ⟨⟨%d, HS⟩, Hg⟩
      isplitl [HS]
      · iexists _
        isplitr
        swap
        · iexact HS
        ipureintro
        exact fun h => absurd rfl h
      iexact Hg)
    (hout := fun c => by
      rw [PhiA_eq]
      show scratchAt m c cfg0.N le_rfl ⊢ _
      unfold scratchAt
      iintro ⟨⟨%d, -, HS⟩, Hg⟩
      isplitl [HS]
      · iexists _; iexact HS
      iexact Hg)

/-- The frame: the arguments end as launched, all counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Own

end
-- ==== Proof.Arrays.lean ====
module

public import proofs.«01_k».proof.Proof.Run

/- What the three result arrays hold after the run, as functions of the three argument arrays. -/

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI Idealize.SL.Sem
open Idealize.ShloMosaic.ValueIdx
open Idealize.ShloMosaic.Pipeline (Dat)
open Cert.KernelIdeal.Gen

variable {F : FTy → Type} [FloatOps F]

/-- Rows `1024 b .. 1024 b + 1023` of the first input. -/
def rowBlk (X : FVec F S12288x3072 .bf16) (b : Fin 12) : FVec F S1024x3072 .bf16 := fun y =>
  X (ix2 ⟨1024 * b.val + (y 0).val, by have h : (y 0).val < 1024 := (y 0).isLt; omega⟩ (y 1))

/-- Columns `1024 b .. 1024 b + 1023` of the weight codes. -/
def wColBlk (W : Vec F S3072x8192 .fp8e4m3) (b : Fin 8) : Vec F S3072x1024 .fp8e4m3 := fun y =>
  W (ix2 (y 0) ⟨1024 * b.val + (y 1).val, by have h : (y 1).val < 1024 := (y 1).isLt; omega⟩)

/-- The same columns of the weight scales. -/
def wsColBlk (S : Vec F S96x8192 .i8) (b : Fin 8) : Vec F S96x1024 .i8 := fun y =>
  S (ix2 (y 0) ⟨1024 * b.val + (y 1).val, by have h : (y 1).val < 1024 := (y 1).isLt; omega⟩)

/-- The row block a row lies in, and its place there. -/
def rowBlkOf (r : Fin 12288) : Fin 12 := ⟨r.val / 1024, by omega⟩
def inRowBlk (r : Fin 12288) : Fin 1024 := ⟨r.val % 1024, by omega⟩

/-- The column block a column lies in, and its place there. -/
def colBlkOf (l : Fin 8192) : Fin 8 := ⟨l.val / 1024, by omega⟩
def inColBlk (l : Fin 8192) : Fin 1024 := ⟨l.val % 1024, by omega⟩

/-- The product array. -/
def outArr (X : FVec F S12288x3072 .bf16) (W : Vec F S3072x8192 .fp8e4m3) (S : Vec F S96x8192 .i8) :
    FVec F S12288x8192 .bf16 := fun i =>
  k0_pay5 (wsColBlk S (colBlkOf (i 1))) (wColBlk W (colBlkOf (i 1))) (xbBlk (rowBlk X (rowBlkOf (i 0))))
    (ix2 (inRowBlk (i 0)) (inColBlk (i 1)))

/-- The codes array. -/
def codesArr (X : FVec F S12288x3072 .bf16) : FVec F S12288x3072 .fp8e4m3 := fun i =>
  codesBlk (rowBlk X (rowBlkOf (i 0))) (ix2 (inRowBlk (i 0)) (i 1))

/-- The scales array. -/
def xsArr (X : FVec F S12288x3072 .bf16) : IVec S12288x96 8 := fun i =>
  xsBlk (rowBlk X (rowBlkOf (i 0))) (ix2 (inRowBlk (i 0)) (i 1))

variable (m : (ℓ : Loc nD τ sig) → Buf (Elt F) ℓ) (ρ : Dev nD → PrngReg) (c : Dev nD)

/-- The first input as the kernel finds it: a matrix. -/
abbrev xMat : FVec F S12288x3072 .bf16 := V m c main_v0

/-- The row block and the column block of a point. -/
def rb (t : Fin cfg0.N) : Fin 12 := ⟨t.val / 8, by have := point_lt t; omega⟩
def cb (t : Fin cfg0.N) : Fin 8 := ⟨t.val % 8, by omega⟩

theorem xBlk_eq (t : Fin cfg0.N) : xBlk m c t = rowBlk (xMat m c) (rb t) :=
  funext fun y => iblk0_apply m c t y

theorem wBlk_eq (t : Fin cfg0.N) : wBlk m c t = wColBlk (V m c main_arg1) (cb t) :=
  funext fun y => iblk1_apply m c t y

theorem wsBlk_eq (t : Fin cfg0.N) : wsBlk m c t = wsColBlk (F := F) (V m c main_arg2) (cb t) :=
  funext fun y => iblk2_apply m c t y

/-- Where an element of a result block lies in its array. -/
theorem emb3 (t : Fin cfg0.N) (y : S1024x1024.Idx) :
    ((cfg0.win 3).blk t).view.emb y = (ix2 (rowAt t (y 0)) (colAt t (y 1)) : S12288x8192.Idx) := by
  funext a
  refine Fin.ext ?_
  match a with
  | ⟨0, _⟩ =>
    show (BitVec.ofNat 32 (grid0.coords t 0).val).toNat * 1024 + 1 * (y 0).val = 1024 * (t.val / 8) + (y 0).val
    rw [ofNat_coord0]; omega
  | ⟨1, _⟩ =>
    show (BitVec.ofNat 32 (grid0.coords t 1).val).toNat * 1024 + 1 * (y 1).val = 1024 * (t.val % 8) + (y 1).val
    rw [ofNat_coord1]; omega

theorem emb4 (t : Fin cfg0.N) (y : S1024x3072.Idx) :
    ((cfg0.win 4).blk t).view.emb y = (ix2 (rowAt t (y 0)) (y 1) : S12288x3072.Idx) := by
  funext a
  refine Fin.ext ?_
  match a with
  | ⟨0, _⟩ =>
    show (BitVec.ofNat 32 (grid0.coords t 0).val).toNat * 1024 + 1 * (y 0).val = 1024 * (t.val / 8) + (y 0).val
    rw [ofNat_coord0]; omega
  | ⟨1, _⟩ =>
    show 0 * 3072 + 1 * (y 1).val = (y 1).val
    omega

theorem emb5 (t : Fin cfg0.N) (y : S1024x96.Idx) :
    ((cfg0.win 5).blk t).view.emb y = (ix2 (rowAt t (y 0)) (y 1) : S12288x96.Idx) := by
  funext a
  refine Fin.ext ?_
  match a with
  | ⟨0, _⟩ =>
    show (BitVec.ofNat 32 (grid0.coords t 0).val).toNat * 1024 + 1 * (y 0).val = 1024 * (t.val / 8) + (y 0).val
    rw [ofNat_coord0]; omega
  | ⟨1, _⟩ =>
    show 0 * 96 + 1 * (y 1).val = (y 1).val
    omega

theorem rowBlkOf_rowAt (t : Fin cfg0.N) (r : Fin 1024) : rowBlkOf (rowAt t r) = rb t :=
  Fin.ext (by show (1024 * (t.val / 8) + r.val) / 1024 = t.val / 8; omega)
theorem inRowBlk_rowAt (t : Fin cfg0.N) (r : Fin 1024) : inRowBlk (rowAt t r) = r :=
  Fin.ext (by show (1024 * (t.val / 8) + r.val) % 1024 = r.val; omega)
theorem colBlkOf_colAt (t : Fin cfg0.N) (l : Fin 1024) : colBlkOf (colAt t l) = cb t :=
  Fin.ext (by show (1024 * (t.val % 8) + l.val) / 1024 = t.val % 8; omega)
theorem inColBlk_colAt (t : Fin cfg0.N) (l : Fin 1024) : inColBlk (colAt t l) = l :=
  Fin.ext (by show (1024 * (t.val % 8) + l.val) % 1024 = l.val; omega)

/-- The point that writes a given pair of blocks. -/
def pointOf (b : Fin 12) (j : Fin 8) : Fin cfg0.N := ⟨8 * b.val + j.val, by rw [show cfg0.N = 96 from N_0]; omega⟩

theorem rowAt_pointOf (r : Fin 12288) (j : Fin 8) : rowAt (pointOf (rowBlkOf r) j) (inRowBlk r) = r :=
  Fin.ext (by show 1024 * ((8 * (r.val / 1024) + j.val) / 8) + r.val % 1024 = r.val; omega)
theorem colAt_pointOf (b : Fin 12) (l : Fin 8192) : colAt (pointOf b (colBlkOf l)) (inColBlk l) = l :=
  Fin.ext (by show 1024 * ((8 * b.val + l.val / 1024) % 8) + l.val % 1024 = l.val; omega)

theorem outArr_at (X : FVec F S12288x3072 .bf16) (W : Vec F S3072x8192 .fp8e4m3) (S : Vec F S96x8192 .i8) (t : Fin cfg0.N)
    (a b : Fin 1024) : outArr X W S (ix2 (rowAt t a) (colAt t b))
      = k0_pay5 (wsColBlk (F := F) S (cb t)) (wColBlk W (cb t)) (xbBlk (rowBlk X (rb t))) (ix2 a b) := by
  show k0_pay5 (wsColBlk (F := F) S (colBlkOf (colAt t b))) (wColBlk W (colBlkOf (colAt t b)))
    (xbBlk (rowBlk X (rowBlkOf (rowAt t a)))) (ix2 (inRowBlk (rowAt t a)) (inColBlk (colAt t b))) = _
  rw [rowBlkOf_rowAt, inRowBlk_rowAt, colBlkOf_colAt, inColBlk_colAt]

theorem codesArr_at (X : FVec F S12288x3072 .bf16) (t : Fin cfg0.N) (a : Fin 1024) (l : Fin 3072) :
    codesArr X (ix2 (rowAt t a) l) = codesBlk (rowBlk X (rb t)) (ix2 a l) := by
  show codesBlk (rowBlk X (rowBlkOf (rowAt t a))) (ix2 (inRowBlk (rowAt t a)) l) = _
  rw [rowBlkOf_rowAt, inRowBlk_rowAt]

theorem xsArr_at (X : FVec F S12288x3072 .bf16) (t : Fin cfg0.N) (a : Fin 1024) (l : Fin 96) :
    xsArr X (ix2 (rowAt t a) l) = xsBlk (rowBlk X (rb t)) (ix2 a l) := by
  show xsBlk (rowBlk X (rowBlkOf (rowAt t a))) (ix2 (inRowBlk (rowAt t a)) l) = _
  rw [rowBlkOf_rowAt, inRowBlk_rowAt]

/-- The product array after the run. -/
theorem out_final : (dats m 0 c).arrAt 3 cfg0.N = outArr (xMat m c) (V m c main_arg1) (V m c main_arg2) := by
  refine (dats m 0 c).arrAt_eq_of_cover 3 _ (fun t _ => ?_) fun i => ?_
  · show (cfg0.win 3).cut (grid0.coords t) ((dats m 0 c).after 3 t) = _
    rw [after3, xBlk_eq, wBlk_eq, wsBlk_eq]
    funext y
    exact (congrArg _ (eq_ix2 y)).trans ((outArr_at _ _ _ t (y 0) (y 1)).symm.trans
      (congrArg (outArr (xMat m c) (V m c main_arg1) (V m c main_arg2)) (emb3 t y).symm))
  · refine ⟨pointOf (rowBlkOf (i 0)) (colBlkOf (i 1)), flush0_3 _, ?_⟩
    have e : ((cfg0.win 3).blk (pointOf (rowBlkOf (i 0)) (colBlkOf (i 1)))).view.emb
        (ix2 (inRowBlk (i 0)) (inColBlk (i 1)) : S1024x1024.Idx) = i :=
      (emb3 _ _).trans ((congrArg₂ ix2 (rowAt_pointOf _ _) (colAt_pointOf _ _)).trans (eq_ix2 i).symm)
    have h := ((cfg0.win 3).blk (pointOf (rowBlkOf (i 0)) (colBlkOf (i 1)))).view.emb_mem_set
      (ix2 (inRowBlk (i 0)) (inColBlk (i 1)) : S1024x1024.Idx)
    rwa [e] at h

/-- The codes array after the run. -/
theorem codes_final : (dats m 0 c).arrAt 4 cfg0.N = codesArr (xMat m c) := by
  refine (dats m 0 c).arrAt_eq_of_cover 4 _ (fun t _ => ?_) fun i => ?_
  · show (cfg0.win 4).cut (grid0.coords t) ((dats m 0 c).after 4 t) = _
    rw [after4, xBlk_eq]
    funext y
    exact (congrArg _ (eq_ix2 y)).trans ((codesArr_at _ t (y 0) (y 1)).symm.trans
      (congrArg (codesArr (xMat m c)) (emb4 t y).symm))
  · refine ⟨pointOf (rowBlkOf (i 0)) 7,
      (flush0_4 _).mpr (by show (8 * ((i 0).val / 1024) + 7) % 8 = 7; omega), ?_⟩
    have e : ((cfg0.win 4).blk (pointOf (rowBlkOf (i 0)) 7)).view.emb (ix2 (inRowBlk (i 0)) (i 1) : S1024x3072.Idx) = i :=
      (emb4 _ _).trans ((congrArg (ix2 · (i 1)) (rowAt_pointOf _ _)).trans (eq_ix2 i).symm)
    have h := ((cfg0.win 4).blk (pointOf (rowBlkOf (i 0)) 7)).view.emb_mem_set (ix2 (inRowBlk (i 0)) (i 1) : S1024x3072.Idx)
    rwa [e] at h

/-- The scales array after the run. -/
theorem xs_final : (dats m 0 c).arrAt 5 cfg0.N = xsArr (xMat m c) := by
  refine (dats m 0 c).arrAt_eq_of_cover 5 _ (fun t _ => ?_) fun i => ?_
  · show (cfg0.win 5).cut (grid0.coords t) ((dats m 0 c).after 5 t) = _
    rw [after5, xBlk_eq]
    funext y
    exact (congrArg _ (eq_ix2 y)).trans ((xsArr_at _ t (y 0) (y 1)).symm.trans
      (congrArg (xsArr (xMat m c)) (emb5 t y).symm))
  · refine ⟨pointOf (rowBlkOf (i 0)) 7,
      (flush0_5 _).mpr (by show (8 * ((i 0).val / 1024) + 7) % 8 = 7; omega), ?_⟩
    have e : ((cfg0.win 5).blk (pointOf (rowBlkOf (i 0)) 7)).view.emb (ix2 (inRowBlk (i 0)) (i 1) : S1024x96.Idx) = i :=
      (emb5 _ _).trans ((congrArg (ix2 · (i 1)) (rowAt_pointOf _ _)).trans (eq_ix2 i).symm)
    have h := ((cfg0.win 5).blk (pointOf (rowBlkOf (i 0)) 7)).view.emb_mem_set (ix2 (inRowBlk (i 0)) (i 1) : S1024x96.Idx)
    rwa [e] at h

/-- The matrix is the first argument reshaped. -/
theorem xMat_eq : xMat m c = shapeCast S12288x3072 (m ((c : Thread nD τ).loc main_arg0))
    shapeCasts_S4x3072x3072_S12288x3072 := by
  show StableHlo.after hostOps0 (fun b => m (c, b)) (Proc.devRef .tc main_v0) = _
  simp only [hostOps0, StableHlo.after_cons, StableHlo.after_nil]
  exact StableHlo.reshape_result' ..

/-- The run: the three results as functions of the arguments, the arguments unchanged. -/
theorem run_value : θ_run defs (onTc (τ := τ) (main (F := F))) ⟨m, fun _ => 0, ρ⟩ (fun r => ∀ c : Dev nD,
      (r.2.mem ((c.tc : Thread nD τ).loc main_v1_0)
        = outArr (xMat m c) (m ((c.tc : Thread nD τ).loc main_arg1)) (m ((c.tc : Thread nD τ).loc main_arg2))
      ∧ r.2.mem ((c.tc : Thread nD τ).loc main_v1_1) = codesArr (xMat m c)
      ∧ r.2.mem ((c.tc : Thread nD τ).loc main_v1_2) = xsArr (xMat m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have h := θ_run_and (frame_run m ρ) (run_main m ρ)
  refine (θ_run defs _ _).mono (fun r hr c => ⟨⟨?_, ?_, ?_⟩, (hr.1.1 c)⟩) h
  · exact (((hr.2.1 c).1 3).trans (out_final m c)).trans (by rw [V_main_arg1, V_main_arg2])
  · exact ((hr.2.1 c).1 4).trans (codes_final m c)
  · exact ((hr.2.1 c).1 5).trans (xs_final m c)

end Cert.KernelIdeal.Own

end
-- ==== Proof.Pow.lean ====
module

public import Idealize.ShloMosaic.PureOps.Ideal
public import Idealize.ShloMosaic.Lib.Pointwise

/- Powers of two as the floats whose exponent field is a given word, over the extended reals: the field 0 is zero, the
   field 255 is infinity, and a field between is `2 ^ (field - 127)`. -/

@[expose] public section

noncomputable section

namespace Cert.Mx

open Idealize.ShloMosaic

/-- The float whose exponent field is the given word and whose other bits are zero. -/
def pow (w : BitVec 32) : EReal := Ideal.ofBits .f32 (IntOp.shli .vector w 23#32)

theorem pow_eq (w : BitVec 32) : pow w = Ideal.ieee 8 23 (IntOp.shli .vector w 23#32) := by
  simp only [pow, Ideal.ofBits]

private theorem fields (n : Fin 256) :
    ((IntOp.shli .vector (BitVec.ofNat 32 n.val) 23#32).extractLsb' (8 + 23) 1 == 1#1) = false
    ∧ ((IntOp.shli .vector (BitVec.ofNat 32 n.val) 23#32).extractLsb' 23 8).toNat = n.val
    ∧ ((IntOp.shli .vector (BitVec.ofNat 32 n.val) 23#32).extractLsb' 0 23).toNat = 0 := by
  revert n; decide +kernel

theorem pow_top : pow 255#32 = ⊤ := by
  obtain ⟨h1, h2, h3⟩ := fields 255
  rw [pow_eq]
  unfold Ideal.ieee
  simp only [show (255#32 : BitVec 32) = BitVec.ofNat 32 (255 : Fin 256).val from rfl, h1, h2, h3]
  norm_num

theorem pow_zero : pow 0#32 = 0 := by
  obtain ⟨h1, h2, h3⟩ := fields 0
  rw [pow_eq]
  unfold Ideal.ieee
  simp only [show (0#32 : BitVec 32) = BitVec.ofNat 32 (0 : Fin 256).val from rfl, h1, h2, h3]
  norm_num

theorem ieee_mid (w : BitVec 32) (n : ℕ) (h0 : 1 ≤ n) (h1 : n ≤ 254) (e1 : (w.extractLsb' (8 + 23) 1 == 1#1) = false)
    (e2 : (w.extractLsb' 23 8).toNat = n) (e3 : (w.extractLsb' 0 23).toNat = 0) :
    Ideal.ieee 8 23 w = (((2 : ℝ) ^ ((n : ℤ) - 127) : ℝ) : EReal) := by
  unfold Ideal.ieee
  simp only [e1, e2, e3]
  rw [if_neg (by omega), if_neg (by omega)]
  refine congrArg Real.toEReal ?_
  have : ((n : ℤ) - 127 : ℤ) = 23 + ((n : ℤ) - (2 ^ (8 - 1) - 1) - (23 : ℕ)) := by norm_num
  rw [this, zpow_add₀ (by norm_num : (2 : ℝ) ≠ 0)]
  norm_num

theorem pow_mid (n : ℕ) (h0 : 1 ≤ n) (h1 : n ≤ 254) : pow (BitVec.ofNat 32 n) = (((2 : ℝ) ^ ((n : ℤ) - 127) : ℝ) : EReal) := by
  rw [pow_eq]
  have h := fields ⟨n, by omega⟩
  exact ieee_mid _ n h0 h1 h.1 h.2.1 h.2.2

/-- `exp2` of a signed word is that power of two. -/
theorem exp2_word (b : BitVec 32) : Ideal.exp2 ((b.toInt : ℝ) : EReal) = (((2 : ℝ) ^ b.toInt : ℝ) : EReal) := by
  show ((Real.rpow 2 (b.toInt : ℝ) : ℝ) : EReal) = _
  rw [← Real.rpow_intCast]; rfl

theorem pow_nonneg (n : ℕ) (h : n ≤ 255) : 0 ≤ pow (BitVec.ofNat 32 n) := by
  rcases Nat.eq_zero_or_pos n with rfl | h0
  · exact pow_zero.ge
  · rcases Nat.lt_or_ge n 255 with h1 | h1
    · rw [pow_mid n h0 (by omega)]
      exact EReal.coe_nonneg.2 (by positivity)
    · obtain rfl : n = 255 := by omega
      rw [pow_top]; exact le_top

/-- The powers grow with the field. -/
theorem pow_mono {a b : ℕ} (hab : a ≤ b) (hb : b ≤ 255) : pow (BitVec.ofNat 32 a) ≤ pow (BitVec.ofNat 32 b) := by
  rcases Nat.eq_zero_or_pos a with rfl | h0
  · exact pow_zero.le.trans (pow_nonneg b hb)
  · rcases Nat.lt_or_ge b 255 with h1 | h1
    · rw [pow_mid a h0 (by omega), pow_mid b (by omega) (by omega)]
      exact EReal.coe_le_coe_iff.2 (zpow_le_zpow_right₀ (by norm_num) (by omega))
    · obtain rfl : b = 255 := by omega
      rw [pow_top]; exact le_top

end Cert.Mx

end
-- ==== Proof.Search.lean ====
module

public import proofs.«01_k».proof.Proof.Pow

/- The exponent field of a ratio: the search over eight bits finds the largest field whose power of two is at most the
   ratio, and a count of the powers of two at most the ratio finds the same number. -/

@[expose] public section

noncomputable section

namespace Cert.Mx

open Idealize.ShloMosaic

/-- One step of the search: keep the bit when the power of two it gives is at most the ratio. -/
def step (r : EReal) (bit field : BitVec 32) : BitVec 32 :=
  Scalar.select (Ideal.cmp .oge r (pow (IntOp.addi field bit))) (IntOp.addi field bit) field

/-- The search over eight bits, high to low. -/
def field (r : EReal) : BitVec 32 :=
  step r 1#32 (step r 2#32 (step r 4#32 (step r 8#32 (step r 16#32 (step r 32#32 (step r 64#32 (step r 128#32 0#32)))))))

/-- The same step against a known answer. -/
def guess (N : ℕ) (bit f : ℕ) : ℕ := if f + bit ≤ N then f + bit else f

/-- Field `N` is the largest whose power of two is at most `r`. -/
def IsField (r : EReal) (N : ℕ) : Prop := N ≤ 255 ∧ ∀ n ≤ 255, pow (BitVec.ofNat 32 n) ≤ r ↔ n ≤ N

theorem exists_field {r : EReal} (hr : 0 ≤ r) : ∃ N, IsField r N := by
  classical
  refine ⟨Nat.findGreatest (fun n => pow (BitVec.ofNat 32 n) ≤ r) 255, Nat.findGreatest_le _, fun n hn => ⟨fun h => ?_, fun h => ?_⟩⟩
  · exact Nat.le_findGreatest hn h
  · have h0 : pow (BitVec.ofNat 32 0) ≤ r := by rw [show BitVec.ofNat 32 0 = 0#32 from rfl, pow_zero]; exact hr
    have := Nat.findGreatest_spec (P := fun n => pow (BitVec.ofNat 32 n) ≤ r) (Nat.zero_le 255) h0
    exact (pow_mono h (Nat.findGreatest_le _)).trans this

theorem step_eq {r : EReal} {N : ℕ} (h : IsField r N) (bit f : ℕ) (hb : f + bit ≤ 255) :
    step r (BitVec.ofNat 32 bit) (BitVec.ofNat 32 f) = BitVec.ofNat 32 (guess N bit f) := by
  have e : IntOp.addi (BitVec.ofNat 32 f) (BitVec.ofNat 32 bit) = BitVec.ofNat 32 (f + bit) := (BitVec.ofNat_add ..).symm
  unfold step guess
  rw [e]
  have k := h.2 (f + bit) hb
  by_cases c : f + bit ≤ N
  · rw [if_pos c]
    have : Ideal.cmp .oge r (pow (BitVec.ofNat 32 (f + bit))) = 1#1 := by
      show BitVec.ofBool (decide (_ ≤ r)) = _
      rw [decide_eq_true (k.2 c)]; rfl
    rw [this]; rfl
  · rw [if_neg c]
    have : Ideal.cmp .oge r (pow (BitVec.ofNat 32 (f + bit))) = 0#1 := by
      show BitVec.ofBool (decide (_ ≤ r)) = _
      rw [decide_eq_false (fun q => c (k.1 q))]; rfl
    rw [this]; rfl

theorem guess_le (N bit f : ℕ) : guess N bit f ≤ f + bit := by unfold guess; split <;> omega

theorem guess_all (N : Fin 256) : guess N.val 1 (guess N.val 2 (guess N.val 4 (guess N.val 8 (guess N.val 16 (guess N.val 32
    (guess N.val 64 (guess N.val 128 0))))))) = N.val := by revert N; decide +kernel

theorem field_eq {r : EReal} {N : ℕ} (h : IsField r N) : field r = BitVec.ofNat 32 N := by
  have b1 := guess_le N 128 0
  have b2 := guess_le N 64 (guess N 128 0)
  have b3 := guess_le N 32 (guess N 64 (guess N 128 0))
  have b4 := guess_le N 16 (guess N 32 (guess N 64 (guess N 128 0)))
  have b5 := guess_le N 8 (guess N 16 (guess N 32 (guess N 64 (guess N 128 0))))
  have b6 := guess_le N 4 (guess N 8 (guess N 16 (guess N 32 (guess N 64 (guess N 128 0)))))
  have b7 := guess_le N 2 (guess N 4 (guess N 8 (guess N 16 (guess N 32 (guess N 64 (guess N 128 0))))))
  unfold field
  rw [step_eq h 128 0 (by omega), step_eq h 64 _ (by omega), step_eq h 32 _ (by omega), step_eq h 16 _ (by omega),
    step_eq h 8 _ (by omega), step_eq h 4 _ (by omega), step_eq h 2 _ (by omega), step_eq h 1 _ (by omega)]
  exact congrArg _ (guess_all ⟨N, by have := h.1; omega⟩)

/-- The stored scale of a ratio: one more than its exponent field, and 127 at either end. -/
def scale (r : EReal) : BitVec 32 :=
  Scalar.select (IntOp.ori (IntOp.cmpi .eq (field r) 0#32) (IntOp.cmpi .eq (field r) 255#32)) 127#32
    (IntOp.addi (field r) 1#32)

/-- The same of a known field. -/
def scaleOf (N : ℕ) : ℕ := if N = 0 ∨ N = 255 then 127 else N + 1

private theorem scale_all (N : Fin 256) :
    Scalar.select (IntOp.ori (IntOp.cmpi .eq (BitVec.ofNat 32 N.val) 0#32) (IntOp.cmpi .eq (BitVec.ofNat 32 N.val) 255#32)) 127#32
      (IntOp.addi (BitVec.ofNat 32 N.val) 1#32) = BitVec.ofNat 32 (scaleOf N.val) := by
  revert N; decide +kernel

theorem scale_eq {r : EReal} {N : ℕ} (h : IsField r N) : scale r = BitVec.ofNat 32 (scaleOf N) := by
  unfold scale
  rw [field_eq h]
  exact scale_all ⟨N, by have := h.1; omega⟩

/-- The powers of two from `2 ^ -126` to `2 ^ 127` at most `r`, as a count. -/
theorem count_eq {r : EReal} {N : ℕ} (h : IsField r N) :
    (Finset.univ.filter fun k : Fin 254 => (((2 : ℝ) ^ ((k.val : ℤ) - 126) : ℝ) : EReal) ≤ r).card = min N 254 := by
  have e : (Finset.univ.filter fun k : Fin 254 => (((2 : ℝ) ^ ((k.val : ℤ) - 126) : ℝ) : EReal) ≤ r)
      = Finset.univ.filter fun k : Fin 254 => k.val < N := by
    refine Finset.filter_congr fun k _ => ?_
    have hk := k.isLt
    have := h.2 (k.val + 1) (by omega)
    rw [pow_mid (k.val + 1) (by omega) (by omega)] at this
    rw [show ((k.val : ℤ) - 126) = ((k.val + 1 : ℕ) : ℤ) - 127 by push_cast; ring, this]
    omega
  rw [e, Fin.card_filter_val_lt, min_comm]

theorem isField_top {N : ℕ} (h : IsField ⊤ N) : N = 255 := by
  have h1 := h.1
  have := (h.2 255 (le_refl _)).1 le_top
  omega

theorem isField_zero {N : ℕ} (h : IsField 0 N) : N = 0 := by
  by_contra c
  have := (h.2 1 (by norm_num)).2 (by omega)
  rw [pow_mid 1 (by norm_num) (by norm_num), ← EReal.coe_zero, EReal.coe_le_coe_iff] at this
  have : (0 : ℝ) < 2 ^ (((1 : ℕ) : ℤ) - 127) := by positivity
  linarith

theorem isField_lt {r : ℝ} {N : ℕ} (h : IsField (r : EReal) N) (hr : r < 2 ^ (126 : ℤ)) : N ≤ 252 := by
  by_contra c
  have := (h.2 253 (by norm_num)).2 (by omega)
  rw [pow_mid 253 (by norm_num) (by norm_num), EReal.coe_le_coe_iff] at this
  norm_num at this hr
  linarith

end Cert.Mx

end
-- ==== Proof.Block.lean ====
module

public import proofs.«01_k».proof.Proof.Search
public import Idealize.ShloMosaic.Lib.IndicatorCount

/- One block of 32 entries: its largest magnitude, the scale stored for it, the codes and the scaled codes; and the same
   scale from a count of powers of two, which agrees with the first on blocks of entries in the range of the format. -/

@[expose] public section

noncomputable section

namespace Cert.Mx

open Idealize.ShloMosaic

/-- The largest magnitude of a block. -/
def bmax (x : Fin 32 → EReal) : EReal :=
  Finset.univ.fold max (Ideal.ofBits .f32 0xFF800000#32) fun k => max (x k) (-(x k))

/-- The largest magnitude over the largest code value. -/
def ratio (x : Fin 32 → EReal) : EReal := bmax x * Ideal.ofBits .f32 0x3B124925#32

/-- The scale stored for a block. -/
def sc (x : Fin 32 → EReal) : BitVec 32 := scale (ratio x)

/-- The code of an entry of a block. -/
def code (x : Fin 32 → EReal) (u : EReal) : EReal :=
  min (Ideal.ofBits .f32 0x43E00000#32) (max (Ideal.ofBits .f32 0xC3E00000#32) (u * pow (IntOp.subi 254#32 (sc x))))

/-- The scaled code of an entry of a block. -/
def scaled (x : Fin 32 → EReal) (u : EReal) : EReal := code x u * pow (sc x)

/-- Every entry is in the range of the format: a magnitude up to the largest finite one, or infinite. -/
def Ok (x : Fin 32 → EReal) : Prop :=
  ∀ k, max (x k) (-(x k)) ≤ Ideal.ofBits .bf16 0x7F7F#16 ∨ max (x k) (-(x k)) = Ideal.ofBits .bf16 0x7F80#16

/-! ### The constants -/

theorem bits_bot : Ideal.ofBits .f32 0xFF800000#32 = ⊥ := by simp [Ideal.ofBits, Ideal.ieee]
theorem bits_top : Ideal.ofBits .f32 0x7F800000#32 = ⊤ := by simp [Ideal.ofBits, Ideal.ieee]
theorem bits_top16 : Ideal.ofBits .bf16 0x7F80#16 = ⊤ := by simp [Ideal.ofBits, Ideal.ieee]

/-- The largest finite magnitude. -/
def big : ℝ := 255 * (2 : ℝ) ^ (120 : ℤ)
theorem bits_big : Ideal.ofBits .bf16 0x7F7F#16 = (big : EReal) := by
  simp [Ideal.ofBits, Ideal.ieee, big, -EReal.coe_mul]

/-- The reciprocal of the largest code value, as a float. -/
def recip : ℝ := 9586981 * (2 : ℝ) ^ (-32 : ℤ)
theorem bits_recip : Ideal.ofBits .f32 0x3B124925#32 = (recip : EReal) := by
  simp [Ideal.ofBits, Ideal.ieee, recip, -EReal.coe_mul]

theorem recip_pos : 0 < recip := by unfold recip; positivity

theorem big_recip : big * recip < 2 ^ (126 : ℤ) := by unfold big recip; norm_num

/-! ### The largest magnitude -/

theorem bmax_eq_sup (x : Fin 32 → EReal) : bmax x = Finset.univ.sup fun k => max (x k) (-(x k)) := by
  unfold bmax; rw [bits_bot]; rfl

theorem bmax_nonneg (x : Fin 32 → EReal) : 0 ≤ bmax x := by
  rw [bmax_eq_sup]
  refine le_trans ?_ (Finset.le_sup (f := fun k => max (x k) (-(x k))) (Finset.mem_univ 0))
  rcases le_total 0 (x 0) with h | h
  · exact le_max_of_le_left h
  · exact le_max_of_le_right (EReal.neg_nonneg.2 h)

theorem bmax_ok {x : Fin 32 → EReal} (h : Ok x) : bmax x = ⊤ ∨ ∃ a : ℝ, bmax x = (a : EReal) ∧ 0 ≤ a ∧ a ≤ big := by
  by_cases c : ∃ k, max (x k) (-(x k)) = ⊤
  · obtain ⟨k, hk⟩ := c
    left
    rw [bmax_eq_sup]
    exact top_le_iff.1 (hk ▸ Finset.le_sup (f := fun k => max (x k) (-(x k))) (Finset.mem_univ k))
  · right
    have hle : bmax x ≤ (big : EReal) := by
      rw [bmax_eq_sup]
      refine Finset.sup_le fun k _ => ?_
      rcases h k with h | h
      · rwa [bits_big] at h
      · exact absurd ⟨k, h.trans bits_top16⟩ c
    have h0 := bmax_nonneg x
    lift bmax x to ℝ using ⟨ne_of_lt (hle.trans_lt (EReal.coe_lt_top _)), ne_of_gt ((EReal.bot_lt_zero).trans_le h0)⟩ with a ha
    exact ⟨a, rfl, EReal.coe_nonneg.1 h0, EReal.coe_le_coe_iff.1 hle⟩

theorem ratio_nonneg (x : Fin 32 → EReal) : 0 ≤ ratio x := by
  unfold ratio; rw [bits_recip]
  exact mul_nonneg (bmax_nonneg x) (EReal.coe_nonneg.2 recip_pos.le)

/-! ### The same scale from a count -/

/-- The exponent of a block from a count of the powers of two at most its ratio. -/
def expWord (x : Fin 32 → EReal) : BitVec 32 :=
  let n := Finset.univ.fold IntOp.addi 0#32 fun k : Fin 254 =>
    (Ideal.cmp .oge (ratio x) (Ideal.exp2 ((IntOp.subi (BitVec.ofNat 32 k.val) 126#32).toInt : ℝ))).setWidth 32
  Scalar.select (Ideal.cmp .oeq (bmax x) 0) 0#32
    (Scalar.select (IntOp.ori (IntOp.cmpi .eq n 0#32) (Ideal.cmp .oeq (ratio x) (Ideal.ofBits .f32 0x7F800000#32))) 0#32
      (IntOp.subi n 126#32))

private theorem toInt_sub (k : Fin 254) : (IntOp.subi (BitVec.ofNat 32 k.val) 126#32).toInt = (k.val : ℤ) - 126 := by
  revert k; decide +kernel

theorem countWord {r : EReal} {N : ℕ} (h : IsField r N) :
    (Finset.univ.fold IntOp.addi 0#32 fun k : Fin 254 =>
      (Ideal.cmp .oge r (Ideal.exp2 ((IntOp.subi (BitVec.ofNat 32 k.val) 126#32).toInt : ℝ))).setWidth 32)
      = BitVec.ofNat 32 (min N 254) := by
  rw [IndicatorCount.fold_addi_setWidth_eq_card, ← count_eq h]
  refine congrArg (fun S : Finset (Fin 254) => BitVec.ofNat 32 S.card) (Finset.filter_congr fun k _ => ?_)
  rw [exp2_word, toInt_sub]
  show BitVec.ofBool (decide (_ ≤ r)) = 1#1 ↔ _
  by_cases c : (((2 : ℝ) ^ ((k.val : ℤ) - 126) : ℝ) : EReal) ≤ r
  · rw [decide_eq_true c]; exact ⟨fun _ => c, fun _ => rfl⟩
  · rw [decide_eq_false c]; exact ⟨fun q => absurd q (by decide), fun q => absurd q c⟩

private theorem exp_all (N : Fin 253) :
    Scalar.select (IntOp.ori (IntOp.cmpi .eq (BitVec.ofNat 32 (min N.val 254)) 0#32) 0#1) 0#32
      (IntOp.subi (BitVec.ofNat 32 (min N.val 254)) 126#32)
      = IntOp.subi (BitVec.ofNat 32 (scaleOf N.val)) 127#32 := by
  revert N; decide +kernel

private theorem scaleOf_range (N : Fin 253) : 1 ≤ scaleOf N.val ∧ scaleOf N.val ≤ 253 := by revert N; decide +kernel

/-- On a block in range both give the same scale, and it is neither 0 nor above 253. -/
theorem exp_sc {x : Fin 32 → EReal} (h : Ok x) :
    ∃ c, 1 ≤ c ∧ c ≤ 253 ∧ sc x = BitVec.ofNat 32 c ∧ expWord x = IntOp.subi (BitVec.ofNat 32 c) 127#32 := by
  obtain ⟨N, hN⟩ := exists_field (ratio_nonneg x)
  have hs : sc x = BitVec.ofNat 32 (scaleOf N) := scale_eq hN
  have hc := countWord hN
  rcases bmax_ok h with ht | ⟨a, ha, ha0, hab⟩
  · have hr : ratio x = ⊤ := by
      unfold ratio; rw [ht, bits_recip]; exact EReal.top_mul_coe_of_pos recip_pos
    obtain rfl : N = 255 := isField_top (hr ▸ hN)
    refine ⟨127, by norm_num, by norm_num, hs, ?_⟩
    unfold expWord
    simp only [hc]
    rw [hr, ht, bits_top]
    have e1 : Ideal.cmp .oeq ⊤ 0 = 0#1 := by
      show BitVec.ofBool (decide ((⊤ : EReal) = 0)) = _
      rw [decide_eq_false (by simp)]; rfl
    have e2 : Ideal.cmp .oeq ⊤ ⊤ = 1#1 := by
      show BitVec.ofBool (decide ((⊤ : EReal) = ⊤)) = _
      rw [decide_eq_true rfl]; rfl
    rw [e1, e2]; decide
  · have hr : ratio x = ((a * recip : ℝ) : EReal) := by
      unfold ratio; rw [ha, bits_recip, EReal.coe_mul]
    have hlt : N ≤ 252 := isField_lt (hr ▸ hN)
      (lt_of_le_of_lt (mul_le_mul_of_nonneg_right hab recip_pos.le) big_recip)
    obtain ⟨l, u⟩ := scaleOf_range ⟨N, by omega⟩
    refine ⟨scaleOf N, l, u, hs, ?_⟩
    unfold expWord
    simp only [hc]
    have e2 : Ideal.cmp .oeq (ratio x) (Ideal.ofBits .f32 0x7F800000#32) = 0#1 := by
      show BitVec.ofBool (decide (ratio x = _)) = _
      rw [decide_eq_false (by rw [bits_top, hr]; exact EReal.coe_ne_top _)]; rfl
    rw [e2, exp_all ⟨N, by omega⟩]
    by_cases z : bmax x = 0
    · have hr0 : ratio x = 0 := by unfold ratio; rw [z, zero_mul]
      obtain rfl : N = 0 := isField_zero (hr0 ▸ hN)
      have e1 : Ideal.cmp .oeq (bmax x) 0 = 1#1 := by
        show BitVec.ofBool (decide (bmax x = 0)) = _
        rw [decide_eq_true z]; rfl
      rw [e1]; rfl
    · have e1 : Ideal.cmp .oeq (bmax x) 0 = 0#1 := by
        show BitVec.ofBool (decide (bmax x = 0)) = _
        rw [decide_eq_false z]; rfl
      rw [e1]; rfl

/-! ### The power of two of a stored scale -/

/-- Two to the word `e`, zero below the least normal exponent and infinite above the largest. -/
def expPow (e : BitVec 32) : EReal :=
  Scalar.select (IntOp.cmpi .slt e 4294967170#32) 0
    (Scalar.select (IntOp.cmpi .sgt e 127#32) (Ideal.ofBits .f32 0x7F800000#32) (Ideal.exp2 (e.toInt : ℝ)))

private theorem mid_all (n : Fin 254) :
    IntOp.cmpi .slt (IntOp.subi (BitVec.ofNat 32 (n.val + 1)) 127#32) 4294967170#32 = 0#1
    ∧ IntOp.cmpi .sgt (IntOp.subi (BitVec.ofNat 32 (n.val + 1)) 127#32) 127#32 = 0#1
    ∧ (IntOp.subi (BitVec.ofNat 32 (n.val + 1)) 127#32).toInt = ((n.val + 1 : ℕ) : ℤ) - 127 := by
  revert n; decide +kernel

/-- It is the float with that exponent field. -/
theorem expPow_eq (n : ℕ) (hn : n ≤ 255) : expPow (IntOp.subi (BitVec.ofNat 32 n) 127#32) = pow (BitVec.ofNat 32 n) := by
  rcases Nat.eq_zero_or_pos n with rfl | h0
  · rw [show pow (BitVec.ofNat 32 0) = 0 from pow_zero]
    unfold expPow
    rw [show IntOp.cmpi .slt (IntOp.subi (BitVec.ofNat 32 0) 127#32) 4294967170#32 = 1#1 by decide]; rfl
  · rcases Nat.lt_or_ge n 255 with h1 | h1
    · obtain ⟨a, b, d⟩ := mid_all ⟨n - 1, by omega⟩
      simp only [Nat.sub_add_cancel h0] at a b d
      unfold expPow
      rw [a, b, exp2_word, d, pow_mid n h0 (by omega)]; rfl
    · obtain rfl : n = 255 := by omega
      rw [show pow (BitVec.ofNat 32 255) = ⊤ from pow_top, ← bits_top]
      unfold expPow
      rw [show IntOp.cmpi .slt (IntOp.subi (BitVec.ofNat 32 255) 127#32) 4294967170#32 = 0#1 by decide,
        show IntOp.cmpi .sgt (IntOp.subi (BitVec.ofNat 32 255) 127#32) 127#32 = 1#1 by decide]; rfl

private theorem neg_all (c : Fin 254) :
    IntOp.subi 0#32 (IntOp.subi (BitVec.ofNat 32 c.val) 127#32) = IntOp.subi (BitVec.ofNat 32 (254 - c.val)) 127#32
    ∧ IntOp.subi 254#32 (BitVec.ofNat 32 c.val) = BitVec.ofNat 32 (254 - c.val)
    ∧ IntOp.addi (IntOp.subi (BitVec.ofNat 32 c.val) 127#32) 127#32 = BitVec.ofNat 32 c.val
    ∧ ((BitVec.ofNat 32 c.val).setWidth 8).setWidth 32 = BitVec.ofNat 32 c.val := by
  revert c; decide +kernel

/-- The factor a block's entries are multiplied by. -/
theorem inverse_eq {x : Fin 32 → EReal} (h : Ok x) :
    expPow (IntOp.subi 0#32 (expWord x)) = pow (IntOp.subi 254#32 (sc x)) := by
  obtain ⟨c, h0, h1, e1, e2⟩ := exp_sc h
  obtain ⟨a, b, _, _⟩ := neg_all ⟨c, by omega⟩
  rw [e1, e2, a, b]
  exact expPow_eq _ (by omega)

/-- The scale as a byte. -/
theorem byte_eq {x : Fin 32 → EReal} (h : Ok x) :
    (IntOp.addi (expWord x) 127#32).setWidth 8 = (sc x).setWidth 8 := by
  obtain ⟨c, h0, h1, e1, e2⟩ := exp_sc h
  obtain ⟨_, _, a, _⟩ := neg_all ⟨c, by omega⟩
  rw [e1, e2, a]

/-- The power of two of a scale read back from its byte. -/
theorem back_eq {x : Fin 32 → EReal} (h : Ok x) :
    expPow (IntOp.subi (((sc x).setWidth 8).setWidth 32) 127#32) = pow (sc x) := by
  obtain ⟨c, h0, h1, e1, e2⟩ := exp_sc h
  obtain ⟨_, _, _, a⟩ := neg_all ⟨c, by omega⟩
  rw [e1, a]
  exact expPow_eq _ (by omega)

/-- The power of two of a stored byte. -/
theorem byte_pow (b : BitVec 8) : expPow (IntOp.subi (b.setWidth 32) 127#32) = pow (b.setWidth 32) := by
  have e : b.setWidth 32 = BitVec.ofNat 32 b.toNat := by
    apply BitVec.eq_of_toNat_eq; simp
  rw [e]
  exact expPow_eq _ (by have := b.isLt; omega)

end Cert.Mx

end
-- ==== Proof.LaneMax.lean ====
module

public import proofs.«01_k».proof.Proof.Tile
public import proofs.«01_k».proof.Proof.Block

/- The running maximum along the lanes: after the steps 1, 2, 4, 8 and 16 the last lane of a block of 32 holds the
   block's largest magnitude. -/

@[expose] public section

set_option maxRecDepth 16384

noncomputable section

namespace Cert.KernelIdeal.Own

open Idealize.ShloMosaic Cert.KernelIdeal Cert.Mx

/-- The lane `n` before a lane, around the end. -/
def back (l : Fin 128) (n : ℕ) : Fin 128 := ⟨(l.val + 128 - n) % 128, by omega⟩

theorem back_back (l : Fin 128) {m n : ℕ} (hm : m ≤ 128) (hn : n ≤ 64) (h : m + n ≤ 128) :
    back (back l m) n = back l (m + n) := by
  apply Fin.ext
  show ((l.val + 128 - m) % 128 + 128 - n) % 128 = (l.val + 128 - (m + n)) % 128
  have := l.isLt
  omega

/-- The largest of a lane's value and those of the `n - 1` lanes before it. -/
def runMax (n : ℕ) (g : Fin 128 → EReal) (l : Fin 128) : EReal := (Finset.range n).sup fun j => g (back l j)

theorem runMax_one (g : Fin 128 → EReal) (l : Fin 128) : runMax 1 g l = g l := by
  have : back l 0 = l := Fin.ext (by show (l.val + 128 - 0) % 128 = l.val; have := l.isLt; omega)
  simp [runMax, this]

/-- Against the lane `n` before it, the running maximum over `n` lanes becomes the one over `2 n`. -/
theorem runMax_double (n : ℕ) (hn : n ≤ 64) (g : Fin 128 → EReal) (l : Fin 128) :
    max (runMax n g l) (runMax n g (back l n)) = runMax (n + n) g l := by
  unfold runMax
  apply le_antisymm
  · refine max_le (Finset.sup_le fun j hj => ?_) (Finset.sup_le fun j hj => ?_)
    · exact Finset.le_sup (f := fun j => g (back l j)) (Finset.mem_range.2 (by have := Finset.mem_range.1 hj; omega))
    · have hj' := Finset.mem_range.1 hj
      rw [back_back l (by omega) (by omega) (by omega)]
      exact Finset.le_sup (f := fun j => g (back l j)) (Finset.mem_range.2 (by omega))
  · refine Finset.sup_le fun j hj => ?_
    have hj' := Finset.mem_range.1 hj
    rcases Nat.lt_or_ge j n with h | h
    · exact le_max_of_le_left (Finset.le_sup (f := fun j => g (back l j)) (Finset.mem_range.2 h))
    · have e : g (back l j) = g (back (back l n) (j - n)) := by
        rw [back_back l (by omega) (by omega) (by omega), Nat.add_sub_cancel' h]
      rw [e]
      exact le_max_of_le_right (Finset.le_sup (f := fun j => g (back (back l n) j)) (Finset.mem_range.2 (by omega)))

/-- At the last lane of a block, over 32 lanes: the block's largest. -/
theorem runMax_block (g : Fin 128 → EReal) (q : Fin 4) :
    runMax 32 g ⟨32 * q.val + 31, by omega⟩ = Finset.univ.sup fun k : Fin 32 => g ⟨32 * q.val + k.val, by omega⟩ := by
  unfold runMax
  apply le_antisymm
  · refine Finset.sup_le fun j hj => ?_
    have hj' := Finset.mem_range.1 hj
    have e : back ⟨32 * q.val + 31, by omega⟩ j = ⟨32 * q.val + (31 - j), by omega⟩ :=
      Fin.ext (by show (32 * q.val + 31 + 128 - j) % 128 = _; simp only; omega)
    rw [e]
    exact Finset.le_sup (f := fun k : Fin 32 => g ⟨32 * q.val + k.val, by omega⟩) (Finset.mem_univ ⟨31 - j, by omega⟩)
  · refine Finset.sup_le fun k _ => ?_
    have e : (⟨32 * q.val + k.val, by omega⟩ : Fin 128) = back ⟨32 * q.val + 31, by omega⟩ (31 - k.val) :=
      Fin.ext (by show _ = (32 * q.val + 31 + 128 - (31 - k.val)) % 128; simp only; omega)
    rw [e]
    exact Finset.le_sup (f := fun j => g (back ⟨32 * q.val + 31, by omega⟩ j)) (Finset.mem_range.2 (by omega))

/-- Rows of the two parities, put back together, are the rows. -/
theorem parity_eq (v : FVec Ideal S64x128 .bf16) (r : Fin 64) (l : Fin 128) (h0 : 2 * (r.val / 2) < 64)
    (h1 : 2 * (r.val / 2) + 1 < 64) :
    (if r.val % 2 = 0 then v (ix2 ⟨2 * (r.val / 2), h0⟩ l) else v (ix2 ⟨2 * (r.val / 2) + 1, h1⟩ l)) = v (ix2 r l) := by
  split
  · exact congrArg (fun a => v (ix2 a l)) (Fin.ext (by show 2 * (r.val / 2) = r.val; omega))
  · exact congrArg (fun a => v (ix2 a l)) (Fin.ext (by show 2 * (r.val / 2) + 1 = r.val; omega))

/-- A doubling step at a lane. -/
theorem rollMax_at (s : BitVec 32) (n : ℕ) (hs : s = BitVec.ofNat 32 n) (hn : 1 ≤ n) (hn' : n ≤ 16)
    (v : FVec Ideal S64x128 .bf16) (r : Fin 64) (l : Fin 128) :
    rollMax s v (ix2 r l) = max (v (ix2 r l)) (v (ix2 r (back l n))) := by
  have e' : s.toNat = n := by subst hs; rw [BitVec.toNat_ofNat]; omega
  pointwise [rollMax]
  refine congrArg₂ max (parity_eq v r l _ _) ?_
  refine (parity_eq v r _ _ _).trans ?_
  exact congrArg (fun a => v (ix2 r a)) (Fin.ext (by show _ = (l.val + 128 - n) % 128; simp only [e']; omega))

theorem rollMax_run (s : BitVec 32) (n : ℕ) (hs : s = BitVec.ofNat 32 n) (hn : 1 ≤ n) (hn' : n ≤ 16)
    (v : FVec Ideal S64x128 .bf16) (g : Fin 64 → Fin 128 → EReal) (h : ∀ r l, v (ix2 r l) = runMax n (g r) l) (r : Fin 64)
    (l : Fin 128) : rollMax s v (ix2 r l) = runMax (n + n) (g r) l := by
  rw [rollMax_at s n hs hn hn', h, h]
  exact runMax_double n (by omega) (g r) l

/-- The running maximum of the magnitudes. -/
theorem laneMax_at (v : FVec Ideal S64x128 .bf16) (r : Fin 64) (l : Fin 128) :
    laneMax v (ix2 r l) = runMax 32 (fun l => max (v (ix2 r l)) (-(v (ix2 r l)))) l := by
  unfold laneMax
  refine rollMax_run 16#32 16 rfl (by omega) (by omega) _ (fun r l => max (v (ix2 r l)) (-(v (ix2 r l)))) (fun r l => ?_) r l
  refine rollMax_run 8#32 8 rfl (by omega) (by omega) _ (fun r l => max (v (ix2 r l)) (-(v (ix2 r l)))) (fun r l => ?_) r l
  refine rollMax_run 4#32 4 rfl (by omega) (by omega) _ (fun r l => max (v (ix2 r l)) (-(v (ix2 r l)))) (fun r l => ?_) r l
  refine rollMax_run 2#32 2 rfl (by omega) (by omega) _ (fun r l => max (v (ix2 r l)) (-(v (ix2 r l)))) (fun r l => ?_) r l
  refine rollMax_run 1#32 1 rfl (by omega) (by omega) _ (fun r l => max (v (ix2 r l)) (-(v (ix2 r l)))) (fun r l => ?_) r l
  rw [runMax_one]
  exact rfl

end Cert.KernelIdeal.Own

end
-- ==== Proof.TileAt.lean ====
module

public import proofs.«01_k».proof.Proof.LaneMax

/- A tile of the kernel read at a lane, over the extended reals: the block's scale, the code and the scaled code. -/

@[expose] public section

set_option maxRecDepth 16384

noncomputable section

namespace Cert.KernelIdeal.Own

open Idealize.ShloMosaic Cert.KernelIdeal Cert.Mx

/-- Block `q` of row `r` of a tile. -/
def tileBlock (v : FVec Ideal S64x128 .bf16) (r : Fin 64) (q : Fin 4) : Fin 32 → EReal :=
  fun k => v (ix2 r ⟨32 * q.val + k.val, by omega⟩)

/-- The block of a lane. -/
def quarter (l : Fin 128) : Fin 4 := ⟨l.val / 32, by omega⟩

private theorem last_all (l : Fin 128) :
    (Scalar.select (IntOp.cmpi .slt (IntOp.ori (BitVec.ofNat 32 l.val) 31#32) 0#32)
      (IntOp.addi (IntOp.ori (BitVec.ofNat 32 l.val) 31#32) 128#32) (IntOp.ori (BitVec.ofNat 32 l.val) 31#32)).toNat % 128
      = 32 * (l.val / 32) + 31 := by
  revert l; decide +kernel

theorem lastLane_at (r : Fin 64) (l : Fin 128) : (wrapLane lastLane (ix2 r l)).toNat % 128 = 32 * (l.val / 32) + 31 := by
  refine Eq.trans ?_ (last_all l)
  pointwise [wrapLane, lastLane]

theorem laneMax_last (v : FVec Ideal S64x128 .bf16) (r : Fin 64) (q : Fin 4) :
    laneMax v (ix2 r ⟨32 * q.val + 31, by omega⟩) = bmax (tileBlock v r q) := by
  rw [laneMax_at, runMax_block, bmax_eq_sup]; rfl

theorem ratioTile_at (v : FVec Ideal S64x128 .bf16) (r : Fin 64) (l : Fin 128) :
    ratioTile v (ix2 r l) = ratio (tileBlock v r (quarter l)) := by
  pointwise [ratioTile]
  unfold ratio
  refine congrArg (· * Ideal.ofBits .f32 0x3B124925#32) ?_
  refine (parity_eq (laneMax v) r _ _ _).trans ?_
  rw [← laneMax_last]
  exact congrArg (fun a => laneMax v (ix2 r a)) (Fin.ext (lastLane_at r l))

theorem powTile_at (w : IVec S64x128 32) (i : S64x128.Idx) : powTile (F := Ideal) w i = pow (w i) := rfl

theorem searchStep_at (q : FVec Ideal S64x128 .f32) (bit : BitVec 32) (w : IVec S64x128 32) (i : S64x128.Idx) :
    searchStep q bit w i = step (q i) bit (w i) := rfl

theorem fieldTile_at (q : FVec Ideal S64x128 .f32) (i : S64x128.Idx) : fieldTile q i = field (q i) := by
  unfold fieldTile field
  simp only [searchStep_at]
  rfl

theorem scaleTile_at (v : FVec Ideal S64x128 .bf16) (r : Fin 64) (l : Fin 128) :
    scaleTile v (ix2 r l) = sc (tileBlock v r (quarter l)) := by
  pointwise [scaleTile]
  rw [fieldTile_at, ratioTile_at]
  rfl

theorem codesTile_at (v : FVec Ideal S64x128 .bf16) (r : Fin 64) (l : Fin 128) :
    codesTile v (ix2 r l) = code (tileBlock v r (quarter l)) (v (ix2 r l)) := by
  unfold code
  rw [← scaleTile_at]
  exact rfl

theorem xbTile_at (v : FVec Ideal S64x128 .bf16) (r : Fin 64) (l : Fin 128) :
    xbTile v (ix2 r l) = scaled (tileBlock v r (quarter l)) (v (ix2 r l)) := by
  unfold scaled
  rw [← codesTile_at, ← scaleTile_at]
  exact rfl

theorem colTile_at (v : FVec Ideal S64x3072 .bf16) (j : Fin 24) (r : Fin 64) (l : Fin 128) :
    colTile v j (ix2 r l) = v (ix2 r ⟨128 * j.val + l.val, by omega⟩) := by
  pointwise [colTile]

/-! ### The scales of a row, side by side -/

private theorem quot_all (l : Fin 128) :
    (Scalar.select (IntOp.andi (IntOp.cmpi .ne (IntOp.subi ((IntOp.cmpi .sgt (BitVec.ofNat 32 l.val) 0#32).setWidth 32)
        ((IntOp.cmpi .slt (BitVec.ofNat 32 l.val) 0#32).setWidth 32))
        (Scalar.subi (Scalar.extui (Scalar.cmpi .sgt 4#32 0#32)) (Scalar.extui (Scalar.cmpi .slt 4#32 0#32))))
      (IntOp.cmpi .ne (IntOp.remsi .vector (BitVec.ofNat 32 l.val) 4#32) 0#32))
      (IntOp.subi (IntOp.divsi .vector (BitVec.ofNat 32 l.val) 4#32) 1#32)
      (IntOp.divsi .vector (BitVec.ofNat 32 l.val) 4#32)) = BitVec.ofNat 32 (l.val / 4) := by
  revert l; decide +kernel

theorem lanes_at (r : Fin 64) (l : Fin 128) : lanes (ix2 r l) = BitVec.ofNat 32 l.val := by
  pointwise [lanes]

theorem laneQuot_at (r : Fin 64) (l : Fin 128) : laneQuot (ix2 r l) = BitVec.ofNat 32 (l.val / 4) := by
  refine Eq.trans ?_ (quot_all l)
  rw [← lanes_at r l]
  exact rfl

private theorem rem_all (l : Fin 128) (d : BitVec 32) (hd : d = 4#32) :
    (Scalar.select (IntOp.andi (IntOp.xori (IntOp.cmpi .slt (IntOp.remsi .vector (BitVec.ofNat 32 l.val) d) 0#32)
        (Scalar.cmpi .slt d 0#32)) (IntOp.cmpi .ne (IntOp.remsi .vector (BitVec.ofNat 32 l.val) d) 0#32))
      (IntOp.addi (IntOp.remsi .vector (BitVec.ofNat 32 l.val) d) d)
      (IntOp.remsi .vector (BitVec.ofNat 32 l.val) d)) = BitVec.ofNat 32 (l.val % 4) := by
  subst hd; revert l; decide +kernel

theorem laneRem_at (r : Fin 64) (l : Fin 128) : laneRem (ix2 r l) = BitVec.ofNat 32 (l.val % 4) := by
  refine Eq.trans ?_ (rem_all l (Scalar.select (Scalar.cmpi .eq 4#32 0#32) 1#32 4#32) (by decide))
  rw [← lanes_at r l]
  exact rfl

private theorem pick_all (k : Fin 4) :
    (Scalar.select (IntOp.cmpi .slt (IntOp.muli (BitVec.ofNat 32 k.val) 32#32) 0#32)
      (IntOp.addi (IntOp.muli (BitVec.ofNat 32 k.val) 32#32) 128#32) (IntOp.muli (BitVec.ofNat 32 k.val) 32#32)).toNat % 128
      = 32 * k.val := by
  revert k; decide +kernel

theorem pickLane_at (r : Fin 64) (l : Fin 128) :
    (wrapLane (muli laneRem (broadcast S64x128 32#32)) (ix2 r l)).toNat % 128 = 32 * (l.val % 4) := by
  refine Eq.trans ?_ (pick_all ⟨l.val % 4, by omega⟩)
  have := laneRem_at r l
  pointwise [wrapLane]
  rw [this]

theorem pickedTile_at (w : IVec S64x128 32) (r : Fin 64) (l : Fin 128) :
    pickedTile w (ix2 r l) = w (ix2 r ⟨32 * (l.val % 4), by omega⟩) := by
  pointwise [pickedTile]
  exact congrArg (fun a => w (ix2 r a)) (Fin.ext (pickLane_at r l))

theorem scalesUpTo_at (v : FVec Ideal S64x3072 .bf16) (r : Fin 64) (l : Fin 128) :
    ∀ (n : ℕ) (h : n ≤ 24) (hl : l.val / 4 < n), scalesUpTo v n h (ix2 r l)
      = pickedTile (scaleTile (colTile v ⟨l.val / 4, by omega⟩)) (ix2 r l) := by
  intro n
  induction n with
  | zero => intro h hl; omega
  | succ n ih =>
    intro h hl
    have e : scalesUpTo v (n + 1) h (ix2 r l) = Scalar.select (IntOp.cmpi .eq (laneQuot (ix2 r l)) (BitVec.ofNat 32 n))
      (pickedTile (scaleTile (colTile v ⟨n, h⟩)) (ix2 r l)) (scalesUpTo v n (Nat.le_of_succ_le h) (ix2 r l)) := rfl
    rw [e, laneQuot_at]
    by_cases c : l.val / 4 = n
    · have : IntOp.cmpi .eq (BitVec.ofNat 32 (l.val / 4)) (BitVec.ofNat 32 n) = 1#1 := by
        rw [c]; show BitVec.ofBool (_ == _) = _; simp
      rw [this]
      subst c
      rfl
    · have : IntOp.cmpi .eq (BitVec.ofNat 32 (l.val / 4)) (BitVec.ofNat 32 n) = 0#1 := by
        show BitVec.ofBool (_ == _) = _
        have : (BitVec.ofNat 32 (l.val / 4) == BitVec.ofNat 32 n) = false := by
          rw [beq_eq_false_iff_ne]
          intro q
          have := congrArg BitVec.toNat q
          simp only [BitVec.toNat_ofNat] at this
          omega
        rw [this]; rfl
      rw [this]
      exact ih (Nat.le_of_succ_le h) (by omega)

theorem scalesRows_at (v : FVec Ideal S64x3072 .bf16) (r : Fin 64) (b : Fin 96) :
    scalesRows v (ix2 r b)
      = (sc fun k : Fin 32 => v (ix2 r ⟨b.val * 32 + k.val, by omega⟩)).setWidth 8 := by
  have e : scalesRows v (ix2 r b) = (scalesUpTo v 24 (Nat.le_refl 24) (ix2 r ⟨b.val, by omega⟩)).setWidth 8 := by
    generalize hs : scalesUpTo v 24 (Nat.le_refl 24) = s
    unfold scalesRows
    rw [hs]
    pointwise []
  rw [e, scalesUpTo_at v r ⟨b.val, by omega⟩ 24 _ (by show b.val / 4 < 24; omega), pickedTile_at, scaleTile_at]
  congr 2
  funext k
  unfold tileBlock
  rw [colTile_at]
  refine congrArg (fun a => v (ix2 r a)) (Fin.ext ?_)
  show 128 * (b.val / 4) + (32 * (32 * (b.val % 4) / 32) + k.val) = b.val * 32 + k.val
  omega

end Cert.KernelIdeal.Own

end
-- ==== Proof.KernelAt.lean ====
module

public import proofs.«01_k».proof.Proof.Arrays
public import proofs.«01_k».proof.Proof.TileAt

/- The kernel's three results read at an index, over the extended reals. -/

@[expose] public section

set_option maxRecDepth 16384

noncomputable section

namespace Cert.KernelIdeal.Own

open Idealize.ShloMosaic Cert.KernelIdeal Cert.KernelIdeal.Gen Cert.Mx

/-- The two spellings of an index from its coordinates agree. -/
theorem ix2_eq {m n : ℕ} (a : Fin m) (b : Fin n) : ValueIdx.ix2 a b = ix2 a b := by
  funext d; match d with | ⟨0, _⟩ => rfl | ⟨1, _⟩ => rfl

/-- Block `b` of row `r`. -/
def blockAt (X : FVec Ideal S12288x3072 .bf16) (r : Fin 12288) (b : Fin 96) : Fin 32 → EReal :=
  fun k => X (ix2 r ⟨b.val * 32 + k.val, by omega⟩)

/-- The block of a column. -/
def blockOf (l : Fin 3072) : Fin 96 := ⟨l.val / 32, by omega⟩

/-- The band of 64 rows a row lies in, as the quantising loop loads it. -/
def bandRows (X : FVec Ideal S12288x3072 .bf16) (r : Fin 12288) : FVec Ideal S64x3072 .bf16 :=
  rowsOf (rowBlk X (rowBlkOf r)) (band (inRowBlk r))

/-- A row's place in it. -/
def bandRow (r : Fin 12288) : Fin 64 := inBand (inRowBlk r)

theorem bandRows_at (X : FVec Ideal S12288x3072 .bf16) (r : Fin 12288) (l : Fin 3072) :
    bandRows X r (ix2 (bandRow r) l) = X (ix2 r l) := by
  have e : ∀ (Y : FVec Ideal S1024x3072 .bf16) (b : Fin 16) (a : Fin 64),
      rowsOf Y b (ix2 a l) = Y (ix2 ⟨64 * b.val + a.val, by omega⟩ l) := by
    intro Y b a
    refine congrArg Y (funext fun d => Fin.ext ?_)
    match d with
    | ⟨0, _⟩ => rfl
    | ⟨1, _⟩ => exact Nat.zero_add _
  unfold bandRows
  rw [e]
  refine (congrArg X (ix2_eq _ _)).trans (congrArg (fun a => X (ix2 a l)) (Fin.ext ?_))
  show 1024 * (r.val / 1024) + (64 * (r.val % 1024 / 64) + r.val % 1024 % 64) = r.val
  omega

theorem tile_at (X : FVec Ideal S12288x3072 .bf16) (r : Fin 12288) (l : Fin 3072) :
    colTile (bandRows X r) (tileOf l) (ix2 (bandRow r) (inTile l)) = X (ix2 r l) := by
  rw [colTile_at, bandRows_at]
  refine congrArg (fun a => X (ix2 r a)) (Fin.ext ?_)
  show 128 * (l.val / 128) + l.val % 128 = l.val
  omega

theorem tile_block (X : FVec Ideal S12288x3072 .bf16) (r : Fin 12288) (l : Fin 3072) :
    tileBlock (colTile (bandRows X r) (tileOf l)) (bandRow r) (quarter (inTile l)) = blockAt X r (blockOf l) := by
  funext k
  unfold tileBlock blockAt
  rw [colTile_at, bandRows_at]
  refine congrArg (fun a => X (ix2 r a)) (Fin.ext ?_)
  show 128 * (l.val / 128) + (32 * (l.val % 128 / 32) + k.val) = l.val / 32 * 32 + k.val
  omega

/-- The codes. -/
theorem codesArr_ideal (X : FVec Ideal S12288x3072 .bf16) (r : Fin 12288) (l : Fin 3072) :
    codesArr X (ix2 r l) = code (blockAt X r (blockOf l)) (X (ix2 r l)) := by
  have e : codesArr X (ix2 r l) = codesTile (colTile (bandRows X r) (tileOf l)) (ValueIdx.ix2 (bandRow r) (inTile l)) := rfl
  rw [e, ix2_eq, codesTile_at, tile_block, tile_at]

/-- The scaled codes. -/
theorem xbBlk_ideal (X : FVec Ideal S12288x3072 .bf16) (r : Fin 12288) (l : Fin 3072) :
    xbBlk (rowBlk X (rowBlkOf r)) (ix2 (inRowBlk r) l) = scaled (blockAt X r (blockOf l)) (X (ix2 r l)) := by
  have e : xbBlk (rowBlk X (rowBlkOf r)) (ix2 (inRowBlk r) l)
    = xbTile (colTile (bandRows X r) (tileOf l)) (ValueIdx.ix2 (bandRow r) (inTile l)) := rfl
  rw [e, ix2_eq, xbTile_at, tile_block, tile_at]

/-- The scales. -/
theorem xsArr_ideal (X : FVec Ideal S12288x3072 .bf16) (r : Fin 12288) (b : Fin 96) :
    xsArr X (ix2 r b) = (sc (blockAt X r b)).setWidth 8 := by
  have e : xsArr X (ix2 r b) = scalesRows (bandRows X r) (ValueIdx.ix2 (bandRow r) b) := rfl
  rw [e, ix2_eq, scalesRows_at]
  refine congrArg (fun x => (sc x).setWidth 8) (funext fun k => ?_)
  exact bandRows_at X r _

/-- The product of one block of rows and one block of columns. -/
theorem pay5_at (S : Vec Ideal S96x1024 .i8) (W : Vec Ideal S3072x1024 .fp8e4m3) (xb : Vec Ideal S1024x3072 .bf16)
    (r l : Fin 1024) : k0_pay5 (F := Ideal) S W xb (ix2 r l)
      = ∑ k : Fin 3072, xb (ix2 r k) * (W (ix2 k l) * pow ((S (ix2 (blockOf k) l)).setWidth 32)) := by
  pointwise [k0_pay5]
  exact rfl

/-- The product. -/
theorem outArr_ideal (X : FVec Ideal S12288x3072 .bf16) (W : Vec Ideal S3072x8192 .fp8e4m3) (S : Vec Ideal S96x8192 .i8)
    (r : Fin 12288) (l : Fin 8192) : outArr X W S (ix2 r l)
      = ∑ k : Fin 3072, scaled (blockAt X r (blockOf k)) (X (ix2 r k))
          * (W (ix2 k l) * pow ((S (ix2 (blockOf k) l)).setWidth 32)) := by
  have e : outArr X W S (ix2 r l) = k0_pay5 (F := Ideal) (wsColBlk (F := Ideal) S (colBlkOf l)) (wColBlk W (colBlkOf l))
    (xbBlk (rowBlk X (rowBlkOf r))) (ValueIdx.ix2 (inRowBlk r) (inColBlk l)) := rfl
  rw [e, ix2_eq, pay5_at]
  refine Finset.sum_congr rfl fun k _ => ?_
  have hc : (⟨1024 * (l.val / 1024) + l.val % 1024, by omega⟩ : Fin 8192) = l := Fin.ext (by simp only; omega)
  have hW : wColBlk W (colBlkOf l) (ix2 k (inColBlk l)) = W (ix2 k l) :=
    (congrArg W (ix2_eq _ _)).trans (congrArg (fun a => W (ix2 k a)) hc)
  have hS : wsColBlk (F := Ideal) S (colBlkOf l) (ix2 (blockOf k) (inColBlk l)) = S (ix2 (blockOf k) l) :=
    (congrArg S (ix2_eq _ _)).trans (congrArg (fun a => S (ix2 (blockOf k) a)) hc)
  rw [xbBlk_ideal, hW, hS]

end Cert.KernelIdeal.Own

end
-- ==== Proof.RefAt.lean ====
module

public import proofs.«01_k».proof.Proof.Gen.ReferenceIdeal.Frame
public import proofs.«01_k».proof.Proof.Block

/- The reference's results read at an index, over the extended reals. -/

@[expose] public section

set_option maxRecDepth 16384

noncomputable section

namespace Cert.ReferenceIdeal.Own

open Idealize.ShloMosaic Cert.ReferenceIdeal Cert.ReferenceIdeal.Gen Cert.Mx

/-- Block `b` of row `r`. -/
def blockAt (X : FVec Ideal S12288x3072 .bf16) (r : Fin 12288) (b : Fin 96) : Fin 32 → EReal :=
  fun k => X (ix2 r ⟨b.val * 32 + k.val, by omega⟩)

/-- The block of a column. -/
def blockOf (l : Fin 3072) : Fin 96 := ⟨l.val / 32, by omega⟩

/-- The argument as a matrix. -/
def matOf (v : Vec Ideal S4x3072x3072 .bf16) : FVec Ideal S12288x3072 .bf16 :=
  shapeCast S12288x3072 v shapeCasts_S4x3072x3072_S12288x3072

/-- The entries in blocks. -/
def blocks (X : FVec Ideal S12288x3072 .bf16) : FVec Ideal S12288x96x32 .f32 :=
  shapeCast S12288x96x32 (extf .f32 X bitsLt_bf16_f32) shapeCasts_S12288x3072_S12288x96x32

theorem pay2_eq (v : Vec Ideal S4x3072x3072 .bf16) : k0_pay2 (F := Ideal) v = blocks (matOf v) := rfl

theorem blocks_apply (X : FVec Ideal S12288x3072 .bf16) (r : Fin 12288) (b : Fin 96) (k : Fin 32) :
    blocks X (ix3 r b k) = blockAt X r b k := by
  pointwise [blocks]; rfl

/-- The largest magnitudes. -/
def maxes (y : FVec Ideal S12288x96x32 .f32) : FVec Ideal S12288x96 .f32 :=
  multiReduction .maximumf [2] S12288x96 (absf y) 0xFF800000#32 reduces_S12288x96x32_S12288x96 (.inl rfl) rfl

theorem maxes_at (y : FVec Ideal S12288x96x32 .f32) (r : Fin 12288) (b : Fin 96) : maxes y (ix2 r b)
    = Finset.univ.fold max (Ideal.ofBits .f32 0xFF800000#32) fun k : Fin 32 => max (y (ix3 r b k)) (-(y (ix3 r b k))) := by
  pointwise [maxes]
  exact Finset.fold_congr fun k _ => rfl

theorem maxes_apply (X : FVec Ideal S12288x3072 .bf16) (r : Fin 12288) (b : Fin 96) :
    maxes (blocks X) (ix2 r b) = bmax (blockAt X r b) := by
  refine (maxes_at _ r b).trans ?_
  unfold bmax
  exact Finset.fold_congr fun k _ => by rw [blocks_apply]

/-- The ratios. -/
def ratios (a : FVec Ideal S12288x96 .f32) : FVec Ideal S12288x96 .f32 :=
  mulf a (broadcast S12288x96 (Scalar.ofBits .f32 0x3B124925#32))

theorem ratios_at (a : FVec Ideal S12288x96 .f32) (i : S12288x96.Idx) :
    ratios a i = a i * Ideal.ofBits .f32 0x3B124925#32 := rfl

theorem ratios_apply (X : FVec Ideal S12288x3072 .bf16) (r : Fin 12288) (b : Fin 96) :
    ratios (maxes (blocks X)) (ix2 r b) = ratio (blockAt X r b) := by
  refine (ratios_at _ _).trans ?_
  rw [maxes_apply]
  unfold ratio
  exact rfl

/-- The powers of two compared with every ratio. -/
def hits (q : FVec Ideal S12288x96 .f32) : IVec S12288x96x254 1 :=
  cmpf .oge (broadcastTo S12288x96x254 (shapeCast S12288x96x1 q shapeCasts_S12288x96_S12288x96x1)
      broadcasts_S12288x96x1_S12288x96x254)
    (broadcastTo S12288x96x254 (exp2 (sitofp .f32 (subi (iota .tc S1x1x254 32 [2] iota_S1x1x254_d2_w32)
      (broadcast S1x1x254 126#32)) : FVec Ideal S1x1x254 .f32)) broadcasts_S1x1x254_S12288x96x254)

theorem cmpf_at {s : Shape} (p : CmpFPredicate) (a b : FVec Ideal s .f32) (i : s.Idx) :
    cmpf p a b i = Ideal.cmp p (a i) (b i) := rfl

theorem hits_apply (q : FVec Ideal S12288x96 .f32) (r : Fin 12288) (b : Fin 96) (k : Fin 254) :
    hits q (ix3 r b k)
      = Ideal.cmp .oge (q (ix2 r b)) (Ideal.exp2 ((IntOp.subi (BitVec.ofNat 32 k.val) 126#32).toInt : ℝ)) := by
  refine (cmpf_at .oge _ _ _).trans ?_
  refine congrArg₂ (Ideal.cmp .oge) ?_ ?_
  · pointwise []
  · pointwise []; rfl

/-- How many are at most the ratio. -/
def counts (h : IVec S12288x96x254 1) : IVec S12288x96 32 :=
  multiReductionI .add [2] S12288x96 (extui 32 h natLt_1_32) 0#32 reduces_S12288x96x254_S12288x96 rfl

theorem counts_apply (h : IVec S12288x96x254 1) (r : Fin 12288) (b : Fin 96) :
    counts h (ix2 r b) = Finset.univ.fold IntOp.addi 0#32 fun k : Fin 254 => (h (ix3 r b k)).setWidth 32 := by
  pointwise [counts]

/-- The exponents of the blocks. -/
def exps (a q : FVec Ideal S12288x96 .f32) (n : IVec S12288x96 32) : IVec S12288x96 32 :=
  select (cmpf .oeq a (broadcast S12288x96 (Scalar.ofBits .f32 0x00000000#32))) (broadcast S12288x96 0#32)
    (select (ori (cmpi .eq n (broadcast S12288x96 0#32)) (cmpf .oeq q (broadcast S12288x96 (Scalar.ofBits .f32 0x7F800000#32))))
      (broadcast S12288x96 0#32) (subi n (broadcast S12288x96 126#32)))

theorem exps_at (a q : FVec Ideal S12288x96 .f32) (n : IVec S12288x96 32) (i : S12288x96.Idx) : exps a q n i
    = Scalar.select (Ideal.cmp .oeq (a i) (Ideal.ofBits .f32 0x00000000#32)) 0#32
      (Scalar.select (IntOp.ori (IntOp.cmpi .eq (n i) 0#32) (Ideal.cmp .oeq (q i) (Ideal.ofBits .f32 0x7F800000#32))) 0#32
        (IntOp.subi (n i) 126#32)) := rfl

theorem pay3_eq (v : Vec Ideal S4x3072x3072 .bf16) : k0_pay3 (F := Ideal) v
    = exps (maxes (blocks (matOf v))) (ratios (maxes (blocks (matOf v)))) (counts (hits (ratios (maxes (blocks (matOf v)))))) := rfl

theorem bits_zero : Ideal.ofBits .f32 0x00000000#32 = 0 := by simp [Ideal.ofBits, Ideal.ieee]

theorem pay3_apply (v : Vec Ideal S4x3072x3072 .bf16) (r : Fin 12288) (b : Fin 96) :
    k0_pay3 (F := Ideal) v (ix2 r b) = expWord (blockAt (matOf v) r b) := by
  rw [pay3_eq, exps_at]
  rw [counts_apply, maxes_apply, ratios_apply]
  simp only [hits_apply, ratios_apply]
  rw [bits_zero]
  unfold expWord
  exact rfl

theorem factor_at (v : Vec Ideal S4x3072x3072 .bf16) (i : S12288x96.Idx) :
    Scalar.select (k0_pay5 (F := Ideal) v i) 0 (k0_pay6 (F := Ideal) v i) = expPow (k0_pay4 (F := Ideal) v i) := by
  unfold k0_pay5 k0_pay6 expPow
  generalize k0_pay4 (F := Ideal) v = e
  exact rfl

theorem factor_apply (v : Vec Ideal S4x3072x3072 .bf16) (r : Fin 12288) (b : Fin 96) :
    Scalar.select (k0_pay5 (F := Ideal) v (ix2 r b)) 0 (k0_pay6 (F := Ideal) v (ix2 r b))
      = expPow (IntOp.subi 0#32 (expWord (blockAt (matOf v) r b))) := by
  have h : k0_pay4 (F := Ideal) v (ix2 r b) = IntOp.subi 0#32 (expWord (blockAt (matOf v) r b)) := by
    rw [← pay3_apply]; rfl
  rw [← h]; exact factor_at v (ix2 r b)

theorem block_eq (X : FVec Ideal S12288x3072 .bf16) (r : Fin 12288) (l : Fin 3072) :
    blockAt X r ⟨l.val / 32, by omega⟩ ⟨l.val % 32, by omega⟩ = X (ix2 r l) := by
  unfold blockAt
  congr 2
  exact Fin.ext (by show l.val / 32 * 32 + l.val % 32 = l.val; omega)

/-- A choice between zero and a factor, out of a product. -/
theorem select_mul (c : BitVec 1) (u v : EReal) : Scalar.select c 0 (u * v) = u * Scalar.select c 0 v := by
  unfold Scalar.select
  by_cases hc : c = 1
  · simp [hc]
  · rw [if_neg hc, if_neg hc]

theorem codes_at (y : FVec Ideal S12288x96x32 .f32) (n : IVec S12288x96 1) (f : FVec Ideal S12288x96 .f32) (c : Ideal .f32)
    (r : Fin 12288) (l : Fin 3072) : k0_pay7 (F := Ideal) y n f c (ix2 r l)
      = min (Ideal.ofBits .f32 0x43E00000#32) (max (Ideal.ofBits .f32 0xC3E00000#32)
          (y (ix3 r (blockOf l) ⟨l.val % 32, by omega⟩) * Scalar.select (n (ix2 r (blockOf l))) c (f (ix2 r (blockOf l))))) := by
  pointwise [k0_pay7]
  exact rfl

theorem codes_apply (v : Vec Ideal S4x3072x3072 .bf16) (h : ∀ r b, Ok (blockAt (matOf v) r b)) (r : Fin 12288) (l : Fin 3072) :
    k0_pay7 (k0_pay2 (F := Ideal) v) (k0_pay5 (F := Ideal) v) (k0_pay6 v) (Scalar.ofBits .f32 0x00000000#32) (ix2 r l)
      = code (blockAt (matOf v) r (blockOf l)) (matOf v (ix2 r l)) := by
  refine (codes_at _ _ _ _ r l).trans ?_
  rw [show (Scalar.ofBits .f32 0x00000000#32 : Ideal .f32) = (0 : EReal) from bits_zero,
    factor_apply, inverse_eq (h r _), pay2_eq, blocks_apply]
  unfold code
  rw [show blockAt (matOf v) r (blockOf l) ⟨l.val % 32, _⟩ = _ from block_eq (matOf v) r l]

theorem scales_apply (v : Vec Ideal S4x3072x3072 .bf16) (h : ∀ r b, Ok (blockAt (matOf v) r b)) (r : Fin 12288) (b : Fin 96) :
    k0_pay8 (k0_pay3 (F := Ideal) v) (ix2 r b) = (sc (blockAt (matOf v) r b)).setWidth 8 := by
  refine Eq.trans (b := (IntOp.addi (k0_pay3 (F := Ideal) v (ix2 r b)) 127#32).setWidth 8) ?_ ?_
  · generalize k0_pay3 (F := Ideal) v = e
    pointwise [k0_pay8]
  · rw [pay3_apply]
    exact byte_eq (h r b)

/-- The power of two a scale stands for, as the program's operations. -/
theorem expPow_ops (w : BitVec 32) : Scalar.select (IntOp.cmpi .slt w 4294967170#32) 0
    (Scalar.select (IntOp.cmpi .sgt w 127#32) (Ideal.ofBits .f32 2139095040#32)
      (FloatOps.exp2 (F := Ideal) (φ := .f32) (FloatOps.sitofp (F := Ideal) .f32 w))) = expPow w := by
  unfold expPow; exact rfl

theorem scaled_at (y : FVec Ideal S12288x96x32 .f32) (e : IVec S12288x96 32) (n : IVec S12288x96 1) (f : FVec Ideal S12288x96 .f32)
    (c : Ideal .f32) (r : Fin 12288) (l : Fin 3072) : k0_pay9 (F := Ideal) y e n f c (ix2 r l)
      = k0_pay7 (F := Ideal) y n f c (ix2 r l)
        * expPow (IntOp.subi ((k0_pay8 e (ix2 r (blockOf l))).setWidth 32) 127#32) := by
  pointwise [k0_pay9]
  refine (select_mul _ _ _).trans ?_
  rw [← expPow_ops]
  exact rfl

theorem scaled_apply (v : Vec Ideal S4x3072x3072 .bf16) (h : ∀ r b, Ok (blockAt (matOf v) r b)) (r : Fin 12288) (l : Fin 3072) :
    k0_pay9 (k0_pay2 (F := Ideal) v) (k0_pay3 (F := Ideal) v) (k0_pay5 (F := Ideal) v) (k0_pay6 v) (Scalar.ofBits .f32 0x00000000#32) (ix2 r l)
      = scaled (blockAt (matOf v) r (blockOf l)) (matOf v (ix2 r l)) := by
  refine (scaled_at _ _ _ _ _ r l).trans ?_
  rw [scales_apply v h, back_eq (h r _), codes_apply v h]
  unfold scaled
  exact rfl

/-- The product at an entry. -/
theorem product_apply (xb : FVec Ideal S12288x3072 .bf16) (W : Vec Ideal S3072x8192 .fp8e4m3) (S : Vec Ideal S96x8192 .i8)
    (r : Fin 12288) (l : Fin 8192) :
    k0_pay1 (F := Ideal) xb (k0_pay10 W) (k0_pay11 (F := Ideal) S) 127#32 (ix2 r l)
      = ∑ k : Fin 3072, xb (ix2 r k) * (W (ix2 k l) * pow ((S (ix2 (blockOf k) l)).setWidth 32)) := by
  pointwise [k0_pay1, k0_pay10, k0_pay11]
  refine Finset.sum_congr rfl fun k _ => ?_
  refine (select_mul _ _ _).trans (congrArg (xb (ix2 r k) * ·) ((select_mul _ _ _).trans (congrArg (W (ix2 k l) * ·) ?_)))
  rw [expPow_ops]
  exact byte_pow _

end Cert.ReferenceIdeal.Own

end
-- ==== Proof.Equal.lean ====
module

public import proofs.«01_k».proof.Proof.KernelAt
public import proofs.«01_k».proof.Proof.RefAt
public import proofs.«01_k».proof.Proof.Gen.ReferenceIdeal.Value
public import proofs.«01_k».proof.Proof.Gen.Pre_in_bf16_range

/- The kernel's three results are the reference's, over the extended reals, for inputs in the range of the format. -/

@[expose] public section

set_option maxRecDepth 16384

noncomputable section

namespace Cert.Equal

open Idealize.ShloMosaic Cert.Mx

/-- The first argument as a matrix. -/
abbrev mat (x : Vec Ideal Cert.ReferenceIdeal.S4x3072x3072 .bf16) : FVec Ideal Cert.ReferenceIdeal.S12288x3072 .bf16 :=
  Cert.ReferenceIdeal.Own.matOf x

variable (x : Vec Ideal Cert.ReferenceIdeal.S4x3072x3072 .bf16) (W : Vec Ideal Cert.ReferenceIdeal.S3072x8192 .fp8e4m3)
  (S : Vec Ideal Cert.ReferenceIdeal.S96x8192 .i8)

/-- Every entry in range: what the precondition says of the first argument. -/
theorem in_range (h : Cert.Pre_in_bf16_range.fn (F := Ideal) x W S = fun _ => 1#1) (i : Cert.ReferenceIdeal.S4x3072x3072.Idx) :
    max (x i) (-(x i)) ≤ Ideal.ofBits .bf16 0x7F7F#16 ∨ max (x i) (-(x i)) = Ideal.ofBits .bf16 0x7F80#16 := by
  have hi : IntOp.ori (Ideal.cmp .ole (max (x i) (-(x i))) (Ideal.ofBits .bf16 0x7F7F#16))
      (Ideal.cmp .oeq (max (x i) (-(x i))) (Ideal.ofBits .bf16 0x7F80#16)) = 1#1 := by
    have := congrFun h i
    unfold Cert.Pre_in_bf16_range.fn at this
    exact this
  by_contra c
  rw [not_or] at c
  have e1 : Ideal.cmp .ole (max (x i) (-(x i))) (Ideal.ofBits .bf16 0x7F7F#16) = 0#1 := by
    show BitVec.ofBool (decide (_ ≤ _)) = _
    rw [decide_eq_false c.1]; rfl
  have e2 : Ideal.cmp .oeq (max (x i) (-(x i))) (Ideal.ofBits .bf16 0x7F80#16) = 0#1 := by
    show BitVec.ofBool (decide (_ = _)) = _
    rw [decide_eq_false c.2]; rfl
  rw [e1, e2] at hi
  exact absurd hi (by decide)

/-- So every block is in range. -/
theorem blocks_ok (h : Cert.Pre_in_bf16_range.fn (F := Ideal) x W S = fun _ => 1#1) (r : Fin 12288) (b : Fin 96) :
    Ok (Cert.ReferenceIdeal.Own.blockAt (mat x) r b) := fun k => in_range x W S h _

/-- The reference loads its first argument whole. -/
theorem load_eq : View.ld x Cert.ReferenceIdeal.Gen.r0_0 = x :=
  View.ld_unit_zero (by funext a; fin_cases a <;> rfl) _ x

/-- The reference's codes, of the argument itself. -/
theorem codes_of : Cert.ReferenceIdeal.Value.G4 (F := Ideal) x W S
    = Cert.ReferenceIdeal.Gen.k0_pay7 (Cert.ReferenceIdeal.Gen.k0_pay2 x) (Cert.ReferenceIdeal.Gen.k0_pay5 x)
        (Cert.ReferenceIdeal.Gen.k0_pay6 x) (Scalar.ofBits .f32 0x00000000#32) := by
  unfold Cert.ReferenceIdeal.Value.G4 Cert.ReferenceIdeal.Gen.k0_pay12 Cert.ReferenceIdeal.Gen.k0_pay14 Cert.ReferenceIdeal.Gen.k0_pay15
  rw [load_eq]

/-- The reference's scales, of the argument itself. -/
theorem scales_of : Cert.ReferenceIdeal.Value.G5 (F := Ideal) x W S
    = Cert.ReferenceIdeal.Gen.k0_pay8 (Cert.ReferenceIdeal.Gen.k0_pay3 x) := by
  unfold Cert.ReferenceIdeal.Value.G5 Cert.ReferenceIdeal.Gen.k0_pay13
  rw [load_eq]

/-- The reference's product, of the arguments themselves. -/
theorem product_of : Cert.ReferenceIdeal.Value.G3 (F := Ideal) x W S
    = Cert.ReferenceIdeal.Gen.k0_pay1 (Cert.ReferenceIdeal.Gen.k0_pay9 (Cert.ReferenceIdeal.Gen.k0_pay2 x)
        (Cert.ReferenceIdeal.Gen.k0_pay3 x) (Cert.ReferenceIdeal.Gen.k0_pay5 x) (Cert.ReferenceIdeal.Gen.k0_pay6 x)
        (Scalar.ofBits .f32 0x00000000#32))
      (Cert.ReferenceIdeal.Gen.k0_pay10 W) (Cert.ReferenceIdeal.Gen.k0_pay11 S) 127#32 := by
  unfold Cert.ReferenceIdeal.Value.G3 Cert.ReferenceIdeal.Gen.k0_pay12 Cert.ReferenceIdeal.Gen.k0_pay13
    Cert.ReferenceIdeal.Gen.k0_pay14 Cert.ReferenceIdeal.Gen.k0_pay15
  rw [load_eq]

variable (h : ∀ r b, Ok (Cert.ReferenceIdeal.Own.blockAt (mat x) r b))

include h

theorem codes_eq : Cert.ReferenceIdeal.Value.G4 (F := Ideal) x W S = Cert.KernelIdeal.Own.codesArr (mat x) := by
  funext i
  rw [codes_of, ← ix2_eta i]
  refine Eq.trans ?_ (Cert.KernelIdeal.Own.codesArr_ideal (mat x) (i 0) (i 1)).symm
  exact Cert.ReferenceIdeal.Own.codes_apply x h (i 0) (i 1)

theorem scales_eq : Cert.ReferenceIdeal.Value.G5 (F := Ideal) x W S = Cert.KernelIdeal.Own.xsArr (mat x) := by
  funext i
  rw [scales_of, ← ix2_eta i]
  refine Eq.trans ?_ (Cert.KernelIdeal.Own.xsArr_ideal (mat x) (i 0) (i 1)).symm
  exact Cert.ReferenceIdeal.Own.scales_apply x h (i 0) (i 1)

theorem product_eq : Cert.ReferenceIdeal.Value.G3 (F := Ideal) x W S = Cert.KernelIdeal.Own.outArr (mat x) W S := by
  funext i
  rw [product_of, ← ix2_eta i]
  refine Eq.trans ?_ (Cert.KernelIdeal.Own.outArr_ideal (mat x) W S (i 0) (i 1)).symm
  refine (Cert.ReferenceIdeal.Own.product_apply _ W S (i 0) (i 1)).trans ?_
  refine Finset.sum_congr rfl fun k _ => ?_
  exact congrArg (· * _) (Cert.ReferenceIdeal.Own.scaled_apply x h (i 0) k)

end Cert.Equal

end
-- ==== Proof.Agree.lean ====
module

public import proofs.«01_k».proof.Defs
public import proofs.«01_k».proof.Proof.Arrays
public import proofs.«01_k».proof.Proof.Equal

/- The two runs end with the same three results: the value claim. -/

@[expose] public section

set_option maxRecDepth 16384

noncomputable section

namespace Cert.Agree

open Idealize.ShloMosaic Idealize.SL.Sem

/-- Over the extended reals, for a first argument in the range of its format, the kernel and the reference both run and
    end with the same product, the same codes and the same scales. -/
theorem algebraic : Cert.algebraic_KernelIdeal_ReferenceIdeal_pre_in_bf16_range
    (hKernelIdeal := Cert.KernelIdeal.Gen.facts) (hReferenceIdeal := Cert.ReferenceIdeal.Gen.facts)
    (hPre_in_bf16_range := Cert.Pre_in_bf16_range.Gen.facts) := by
  intro m g m' g' hpre hagree
  refine ⟨fun c => Cert.KernelIdeal.Own.outArr (Cert.KernelIdeal.Own.xMat m c)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.KernelIdeal.Own.codesArr (Cert.KernelIdeal.Own.xMat m c),
    fun c => Cert.KernelIdeal.Own.xsArr (Cert.KernelIdeal.Own.xMat m c), ?_, ?_⟩
  · exact (θ_run _ _ _).mono (fun r h c => ⟨(h c).1.1, (h c).1.2.1, (h c).1.2.2, (h c).2⟩)
      (Cert.KernelIdeal.Own.run_value m g)
  · refine (θ_run _ _ _).mono (fun r h c => ?_) (Cert.ReferenceIdeal.Value.run m' g')
    have ok := Cert.Equal.blocks_ok _ _ _ (hpre c)
    have hc := h c
    obtain ⟨e0, e1, e2⟩ := hagree c
    have hx : Cert.KernelIdeal.Own.xMat m c
        = Cert.Equal.mat (m ((c.tc : Thread Cert.KernelIdeal.nD Cert.KernelIdeal.τ).loc Cert.KernelIdeal.main_arg0)) :=
      Cert.KernelIdeal.Own.xMat_eq m c
    refine ⟨?_, ?_, ?_, hc.2.2.2⟩
    · refine hc.1.trans ?_
      rw [e0, e1, e2]
      refine (Cert.Equal.product_eq _ _ _ ok).trans ?_
      exact congrArg (fun X => Cert.KernelIdeal.Own.outArr X _ _) hx.symm
    · refine hc.2.1.trans ?_
      rw [e0]
      refine (Cert.Equal.codes_eq _ _ _ ok).trans ?_
      exact congrArg Cert.KernelIdeal.Own.codesArr hx.symm
    · refine hc.2.2.1.trans ?_
      rw [e0]
      refine (Cert.Equal.scales_eq _ _ _ ok).trans ?_
      exact congrArg Cert.KernelIdeal.Own.xsArr hx.symm

end Cert.Agree

end
-- ==== Proof.lean ====
/- The claims about the kernel and its reference, put together. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_bf16_range
public import proofs.«01_k».proof.Proof.Gen.ReferenceIdeal.Value
public import proofs.«01_k».proof.Proof.KernelFrame
public import proofs.«01_k».proof.Proof.Run
public import proofs.«01_k».proof.Proof.Agree
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- The three programs run and leave their arguments alone; the ideal kernel is the kernel's idealization; and the ideal
    kernel's results are the reference's. -/
theorem claim : Cert.Claim := ⟨Cert.Kernel.Gen.facts, Cert.KernelIdeal.Gen.facts, Cert.ReferenceIdeal.Gen.facts, Cert.Pre_in_bf16_range.Gen.facts,
  fun m g _ => Cert.Kernel.Own.frame m g,
  fun m g _ => Cert.KernelIdeal.Own.frame_run m g,
  fun m g _ => Cert.KernelIdeal.Own.frame_run m g,
  fun m g _ => Cert.ReferenceIdeal.Gen.frame m g,
  fun m g _ => Cert.ReferenceIdeal.Gen.frame m g,
  IdealRules.bf16_pair.statement _ _,
  Cert.Agree.algebraic⟩

end Cert.Proof

end
